-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_binary_and_finite [hPre_binary_and_finite : Cert.Pre_binary_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_binary_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_binary_and_finite [hPre_binary_and_finite : Cert.Pre_binary_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_binary_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_binary_and_finite [hKernelIdeal : Cert.KernelIdeal.Facts] [hPre_binary_and_finite : Cert.Pre_binary_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_binary_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_binary_and_finite [hReferenceIdeal : Cert.ReferenceIdeal.Facts] [hPre_binary_and_finite : Cert.Pre_binary_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_binary_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  True

def preserves_Reference_ReferenceIdeal : Prop :=
  IdealRules.named_const.Statement Cert.ReferenceIdeal.κ "mask" .f32 0xD01502F9#32 ⊥

def algebraic_KernelIdeal_ReferenceIdeal_pre_binary_and_finite [hKernelIdeal : Cert.KernelIdeal.Facts] [hReferenceIdeal : Cert.ReferenceIdeal.Facts] [hPre_binary_and_finite : Cert.Pre_binary_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_binary_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_binary_and_finite : Cert.Pre_binary_and_finite.Facts),
    quiescent_Kernel (hKernel := hKernel)
    ∧ quiescent_KernelIdeal (hKernelIdeal := hKernelIdeal)
    ∧ quiescent_KernelIdeal_pre_binary_and_finite (hKernelIdeal := hKernelIdeal) (hPre_binary_and_finite := hPre_binary_and_finite)
    ∧ quiescent_ReferenceIdeal (hReferenceIdeal := hReferenceIdeal)
    ∧ quiescent_ReferenceIdeal_pre_binary_and_finite (hReferenceIdeal := hReferenceIdeal) (hPre_binary_and_finite := hPre_binary_and_finite)
    ∧ quiescent_Reference (hReference := hReference)
    ∧ preserves_Kernel_KernelIdeal
    ∧ preserves_Reference_ReferenceIdeal
    ∧ algebraic_KernelIdeal_ReferenceIdeal_pre_binary_and_finite (hKernelIdeal := hKernelIdeal) (hReferenceIdeal := hReferenceIdeal) (hPre_binary_and_finite := hPre_binary_and_finite)
-- ==== Pre_binary_and_finite.lean ====
abbrev S10000x128 : Shape := ⟨2, ![10000, 128]⟩
abbrev S10000x10000 : Shape := ⟨2, ![10000, 10000]⟩
abbrev S128x1x128 : Shape := ⟨3, ![128, 1, 128]⟩
abbrev S128x1x1 : Shape := ⟨3, ![128, 1, 1]⟩
abbrev S128 : Shape := ⟨1, ![128]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x1x128 : S_.BroadcastsInDim S128x1x128 (![] : Fin 0 → Fin S128x1x128.rank)
  reducesTo_S128x1x128_S_d0_1_2 : S128x1x128.ReducesTo [0, 1, 2] S_
  bcast_S_S128x1x1 : S_.BroadcastsInDim S128x1x1 (![] : Fin 0 → Fin S128x1x1.rank)
  reducesTo_S128x1x1_S_d0_1_2 : S128x1x1.ReducesTo [0, 1, 2] S_

variable [Facts]

def fn_part1 {F : FTy → Type} [FloatOps F] (main_arg4 : FVec F S128x1x1 .f32) (main_v5 : IVec S_ 1) (main_v14 : IVec S_ 1) (main_v15 : FVec F S128x1x1 .f32) (main_cst_5 : FVec F S_ .f32) : IVec S_ 1 :=
  let main_v16 : FVec F S128x1x1 .f32 := broadcastInDim S128x1x1 ![] bcast_S_S128x1x1 main_cst_5
  let main_v17 : IVec S128x1x1 1 := cmpf .olt main_v15 main_v16
  let main_c_6 : IVec S_ 1 := constantI S_ 1 1#1
  let main_v18 : IVec S_ 1 := (fun x v => Host.reduce IntOp.andi x v reducesTo_S128x1x1_S_d0_1_2 h_S_) main_v17 main_c_6
  let main_v19 : FVec F S128x1x1 .f32 := Host.absf main_arg4
  let main_cst_7 : FVec F S_ .f32 := constant S_ .f32 0x7F800000#32
  let main_v20 : FVec F S128x1x1 .f32 := broadcastInDim S128x1x1 ![] bcast_S_S128x1x1 main_cst_7
  let main_v21 : IVec S128x1x1 1 := cmpf .olt main_v19 main_v20
  let main_c_8 : IVec S_ 1 := constantI S_ 1 1#1
  let main_v22 : IVec S_ 1 := (fun x v => Host.reduce IntOp.andi x v reducesTo_S128x1x1_S_d0_1_2 h_S_) main_v21 main_c_8
  let main_v23 : IVec S_ 1 := andi main_v18 main_v22
  let main_v24 : IVec S_ 1 := andi main_v14 main_v23
  let main_v25 : IVec S_ 1 := andi main_v5 main_v24
  main_v25

def fn {F : FTy → Type} [FloatOps F] (main_arg0 : FVec F S10000x128 .f32) (main_arg1 : FVec F S10000x10000 .f32) (main_arg2 : FVec F S128x1x128 .f32) (main_arg3 : FVec F S128x1x1 .f32) (main_arg4 : FVec F S128x1x1 .f32) (main_arg5 : FVec F S128 .f32) : IVec S_ 1 :=
  let main_cst : FVec F S_ .f32 := constant S_ .f32 0x00000000#32
  let main_v0 : FVec F S10000x10000 .f32 := broadcastInDim S10000x10000 ![] bcast_S_S10000x10000 main_cst
  let main_v1 : IVec S10000x10000 1 := cmpf .oeq main_arg1 main_v0
  let main_cst_0 : FVec F S_ .f32 := constant S_ .f32 0x3F800000#32
  let main_v2 : FVec F S10000x10000 .f32 := broadcastInDim S10000x10000 ![] bcast_S_S10000x10000 main_cst_0
  let main_v3 : IVec S10000x10000 1 := cmpf .oeq main_arg1 main_v2
  let main_v4 : IVec S10000x10000 1 := ori main_v1 main_v3
  let main_c : IVec S_ 1 := constantI S_ 1 1#1
  let main_v5 : IVec S_ 1 := (fun x v => Host.reduce IntOp.andi x v reducesTo_S10000x10000_S_d0_1 h_S_) main_v4 main_c
  let main_v6 : FVec F S10000x128 .f32 := Host.absf main_arg0
  let main_cst_1 : FVec F S_ .f32 := constant S_ .f32 0x7F800000#32
  let main_v7 : FVec F S10000x128 .f32 := broadcastInDim S10000x128 ![] bcast_S_S10000x128 main_cst_1
  let main_v8 : IVec S10000x128 1 := cmpf .olt main_v6 main_v7
  let main_c_2 : IVec S_ 1 := constantI S_ 1 1#1
  let main_v9 : IVec S_ 1 := (fun x v => Host.reduce IntOp.andi x v reducesTo_S10000x128_S_d0_1 h_S_) main_v8 main_c_2
  let main_v10 : FVec F S128x1x128 .f32 := Host.absf main_arg2
  let main_cst_3 : FVec F S_ .f32 := constant S_ .f32 0x7F800000#32
  let main_v11 : FVec F S128x1x128 .f32 := broadcastInDim S128x1x128 ![] bcast_S_S128x1x128 main_cst_3
  let main_v12 : IVec S128x1x128 1 := cmpf .olt main_v10 main_v11
  let main_c_4 : IVec S_ 1 := constantI S_ 1 1#1
  let main_v13 : IVec S_ 1 := (fun x v => Host.reduce IntOp.andi x v reducesTo_S128x1x128_S_d0_1_2 h_S_) main_v12 main_c_4
  let main_v14 : IVec S_ 1 := andi main_v9 main_v13
  let main_v15 : FVec F S128x1x1 .f32 := Host.absf main_arg3
  let main_cst_5 : FVec F S_ .f32 := constant S_ .f32 0x7F800000#32
  fn_part1 (F := F) main_arg4 main_v5 main_v14 main_v15 main_cst_5
-- ==== Kernel.lean ====
abbrev S10000x128 : Shape := ⟨2, ![10000, 128]⟩
abbrev S10000x10000 : Shape := ⟨2, ![10000, 10000]⟩
abbrev S128x1x128 : Shape := ⟨3, ![128, 1, 128]⟩
abbrev S128x1x1 : Shape := ⟨3, ![128, 1, 1]⟩
abbrev S128 : Shape := ⟨1, ![128]⟩
abbrev S128x128 : Shape := ⟨2, ![128, 128]⟩
abbrev S128x1 : Shape := ⟨2, ![128, 1]⟩
abbrev S1x128 : Shape := ⟨2, ![1, 128]⟩
abbrev S_ : Shape := ⟨0, ![]⟩
abbrev S10240x128 : Shape := ⟨2, ![10240, 128]⟩
abbrev S1024x128 : Shape := ⟨2, ![1024, 128]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x1x128, .f32⟩
  | .hbm, ⟨3, _⟩ => ⟨S128x1x1, .f32⟩
  | .hbm, ⟨4, _⟩ => ⟨S128x1x1, .f32⟩
  | .hbm, ⟨5, _⟩ => ⟨S128, .f32⟩
  | .hbm, ⟨6, _⟩ => ⟨S128x128, .f32⟩
  | .hbm, ⟨7, _⟩ => ⟨S128x1, .f32⟩
  | .hbm, ⟨8, _⟩ => ⟨S128x1, .f32⟩
  | .hbm, ⟨9, _⟩ => ⟨S1x128, .f32⟩
  | .hbm, ⟨10, _⟩ => ⟨S_, .i32⟩
  | .hbm, ⟨11, _⟩ => ⟨S_, .f32⟩
  | .hbm, ⟨12, _⟩ => ⟨S10240x128, .f32⟩
  | .hbm, ⟨13, _⟩ => ⟨S10000x128, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S128x128, .f32⟩
  | .local _ .vmem, ⟨7, _⟩ => ⟨S128x1, .f32⟩
  | .local _ .vmem, ⟨8, _⟩ => ⟨S128x1, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | .local _ .vmem, ⟨16, _⟩ => ⟨S128x1, .f32⟩
  | .local _ .vmem, ⟨17, _⟩ => ⟨S128x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_c : Ref sig .tc := ⟨.hbm, 10, rfl⟩
abbrev main_call0_call0_v0 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![10, 10], ![false, false]⟩

def k0_cond4 (i : grid0.Coords) : BitVec 1 :=
  let arg1 : BitVec 32 := BitVec.ofNat 32 (i 1).val
  let c9_i32_26 : BitVec 32 := 9#32
  let v53 : BitVec 1 := Scalar.cmpi .eq arg1 c9_i32_26
  let v54 : BitVec 32 := Scalar.extui v53
  let c0_i32_27 : BitVec 32 := 0#32
  let v55 : BitVec 1 := Scalar.cmpi .ne v54 c0_i32_27
  v55

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
variable {F : FTy → Type} [FloatOps F] [Named F]
def κ : String → Option EReal := fun
  | "mask" => some ⊥
  | _ => none
-- ==== Reference.lean ====
abbrev S10000x128 : Shape := ⟨2, ![10000, 128]⟩
abbrev S10000x10000 : Shape := ⟨2, ![10000, 10000]⟩
abbrev S128x1x128 : Shape := ⟨3, ![128, 1, 128]⟩
abbrev S128x1x1 : Shape := ⟨3, ![128, 1, 1]⟩
abbrev S128 : Shape := ⟨1, ![128]⟩
abbrev S_ : Shape := ⟨0, ![]⟩
abbrev S10000x1x128 : Shape := ⟨3, ![10000, 1, 128]⟩
abbrev S1x1x10000 : Shape := ⟨3, ![1, 1, 10000]⟩
abbrev S10000x1x1 : Shape := ⟨3, ![10000, 1, 1]⟩
abbrev S10000x1x10000 : Shape := ⟨3, ![10000, 1, 10000]⟩
abbrev S10000x1 : Shape := ⟨2, ![10000, 1]⟩
abbrev S1x128x10000 : Shape := ⟨3, ![1, 128, 10000]⟩
abbrev S1x128 : Shape := ⟨2, ![1, 128]⟩

abbrev nBuf : Space → Nat
  | .hbm => 56
  | .vmem => 2
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x1x128, .f32⟩
  | .hbm, ⟨3, _⟩ => ⟨S128x1x1, .f32⟩
  | .hbm, ⟨4, _⟩ => ⟨S128x1x1, .f32⟩
  | .hbm, ⟨5, _⟩ => ⟨S128, .f32⟩
  | .hbm, ⟨6, _⟩ => ⟨S10000x10000, .i32⟩
  | .hbm, ⟨7, _⟩ => ⟨S10000x10000, .i32⟩
  | .hbm, ⟨8, _⟩ => ⟨S_, .i32⟩
  | .hbm, ⟨9, _⟩ => ⟨S10000x10000, .i32⟩
  | .hbm, ⟨10, _⟩ => ⟨S10000x10000, .i32⟩
  | .hbm, ⟨11, _⟩ => ⟨S10000x10000, .i1⟩
  | .hbm, ⟨12, _⟩ => ⟨S_, .f32⟩
  | .hbm, ⟨13, _⟩ => ⟨S_, .f32⟩
  | .hbm, ⟨14, _⟩ => ⟨S10000x10000, .f32⟩
  | .hbm, ⟨15, _⟩ => ⟨S10000x10000, .f32⟩
  | .hbm, ⟨16, _⟩ => ⟨S10000x10000, .f32⟩
  | .hbm, ⟨17, _⟩ => ⟨S10000x1x128, .f32⟩
  | .hbm, ⟨18, _⟩ => ⟨S1x1x10000, .f32⟩
  | .hbm, ⟨19, _⟩ => ⟨S10000x1x1, .f32⟩
  | .hbm, ⟨20, _⟩ => ⟨S1x1x10000, .f32⟩
  | .hbm, ⟨21, _⟩ => ⟨S10000x1x1, .f32⟩
  | .hbm, ⟨22, _⟩ => ⟨S1x1x10000, .f32⟩
  | .hbm, ⟨23, _⟩ => ⟨S10000x1x10000, .f32⟩
  | .hbm, ⟨24, _⟩ => ⟨S10000x1x10000, .f32⟩
  | .hbm, ⟨25, _⟩ => ⟨S10000x1x10000, .f32⟩
  | .hbm, ⟨26, _⟩ => ⟨S_, .f32⟩
  | .hbm, ⟨27, _⟩ => ⟨S_, .f32⟩
  | .hbm, ⟨28, _⟩ => ⟨S10000x1x10000, .f32⟩
  | .hbm, ⟨29, _⟩ => ⟨S10000x1x10000, .i1⟩
  | .hbm, ⟨30, _⟩ => ⟨S_, .f32⟩
  | .hbm, ⟨31, _⟩ => ⟨S10000x1x10000, .f32⟩
  | .hbm, ⟨32, _⟩ => ⟨S10000x1x10000, .f32⟩
  | .hbm, ⟨33, _⟩ => ⟨S10000x1x10000, .f32⟩
  | .hbm, ⟨34, _⟩ => ⟨S10000x1x10000, .f32⟩
  | .hbm, ⟨35, _⟩ => ⟨S10000x1x10000, .f32⟩
  | .hbm, ⟨36, _⟩ => ⟨S_, .f32⟩
  | .hbm, ⟨37, _⟩ => ⟨S10000x1, .f32⟩
  | .hbm, ⟨38, _⟩ => ⟨S_, .f32⟩
  | .hbm, ⟨39, _⟩ => ⟨S10000x1, .f32⟩
  | .hbm, ⟨40, _⟩ => ⟨S10000x1, .f32⟩
  | .hbm, ⟨41, _⟩ => ⟨S10000x1x1, .f32⟩
  | .hbm, ⟨42, _⟩ => ⟨S10000x1x10000, .f32⟩
  | .hbm, ⟨43, _⟩ => ⟨S10000x1x10000, .f32⟩
  | .hbm, ⟨44, _⟩ => ⟨S10000x1x10000, .f32⟩
  | .hbm, ⟨45, _⟩ => ⟨S_, .f32⟩
  | .hbm, ⟨46, _⟩ => ⟨S10000x1, .f32⟩
  | .hbm, ⟨47, _⟩ => ⟨S10000x1x1, .f32⟩
  | .hbm, ⟨48, _⟩ => ⟨S10000x1x10000, .f32⟩
  | .hbm, ⟨49, _⟩ => ⟨S10000x1x10000, .f32⟩
  | .hbm, ⟨50, _⟩ => ⟨S1x128x10000, .f32⟩
  | .hbm, ⟨51, _⟩ => ⟨S10000x1x128, .f32⟩
  | .hbm, ⟨52, _⟩ => ⟨S10000x128, .f32⟩
  | .hbm, ⟨53, _⟩ => ⟨S1x128, .f32⟩
  | .hbm, ⟨54, _⟩ => ⟨S10000x128, .f32⟩
  | .hbm, ⟨55, _⟩ => ⟨S10000x128, .f32⟩
  | .local _ .vmem, ⟨0, _⟩ => ⟨S10000x10000, .f32⟩
  | .local _ .vmem, ⟨1, _⟩ => ⟨S10000x10000, .f32⟩
  | _, _ => ⟨S10000x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S10000x10000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x10000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Body.lean ====
/-
  The kernel body as a function on contents, and its run. One point of the grid reads the blocks of the padded features, the
  adjacency block, the weights and the bias, updates the six scratch buffers and, in the last column of the grid, stores the
  result block.
-/
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.VecWindow
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body on contents -/

/-- The contents of the six scratch buffers. -/
structure Scr (F : FTy → Type) where
  acc : Vec F S1024x128 .f32
  mx : Vec F S1024x1 .f32
  l : Vec F S1024x1 .f32
  s : Vec F S1024x1 .f32
  ws : Vec F S128x1 .f32
  wt : Vec F S128x1 .f32

/-- The scratch at the start of a row of blocks: the row block's features, the weights and the two attention vectors. -/
def initS (x : Vec F S1024x128 .f32) (w : Vec F S128x128 .f32) (a b : Vec F S128x1 .f32) : Scr F where
  acc := k0_pay11
  mx := k0_pay8
  l := k0_pay10 k0_pay9
  s := k0_pay7 x (k0_pay5 w a)
  ws := k0_pay5 w a
  wt := k0_pay6 w b

/-- The adjacency block that the point multiplies by: the block `g` as fetched, zero past the last column in the last column
    of blocks, one on the diagonal in a diagonal block. -/
def adj (i : grid0.Coords) (g : Vec F S1024x1024 .f32) : Vec F S1024x1024 .f32 :=
  let g' := if (i 1).val = 9 then k0_pay15 i g else g
  if (i 0).val = (i 1).val then k0_pay16 i g' else g'

/-- The scratch after a point that finds `S`, the column block's features `x` and the adjacency block `g`. -/
def stepS (i : grid0.Coords) (x : Vec F S1024x128 .f32) (g : Vec F S1024x1024 .f32) (S : Scr F) : Scr F where
  acc := k0_pay2 (k0_pay12 x) (k0_pay17 x S.wt S.s S.mx (adj i g)) (k0_pay18 x S.wt S.s S.mx) S.acc
  mx := k0_pay3 (k0_pay14 x S.wt S.s S.mx)
  l := k0_pay1 (k0_pay17 x S.wt S.s S.mx (adj i g)) (k0_pay19 x S.wt S.s S.mx S.l)
  s := S.s
  ws := S.ws
  wt := S.wt

/-- The scratch as the update at a point finds it: reset in the first column of blocks. -/
def startS (i : grid0.Coords) (x : Vec F S1024x128 .f32) (w : Vec F S128x128 .f32) (a b : Vec F S128x1 .f32) (S : Scr F) : Scr F :=
  if (i 1).val = 0 then initS x w a b else S

/-- The result's staging buffer after a point that ends with scratch `S`: stored in the last column of blocks. -/
def outS (i : grid0.Coords) (w : Vec F S128x128 .f32) (bias : Vec F S1x128 .f32) (S : Scr F) (old : Vec F S1024x128 .f32) : Vec F S1024x128 .f32 :=
  if (i 1).val = 9 then k0_pay4 S.acc S.l w bias else old

/-! ## The conditions of the body -/

/-- The offset of every access is zero on both axes. -/
theorem hz2 : (![0, 0] : Fin 2 → Nat) = fun _ => 0 := by decide

/-- The printed comparison of two grid coordinates. -/
theorem cond_eq (x y : Fin 10) :
    Iff (Scalar.cmpi .ne (Scalar.extui (Scalar.cmpi .eq (BitVec.ofNat 32 x.val) (BitVec.ofNat 32 y.val)) : BitVec 32) 0#32 = 1#1) (x.val = y.val) := by
  revert x y; decide

/-- A proposition under a name of its own. -/
theorem prop_name (q : Prop) : ∃ P : Prop, Iff q P := ⟨q, Iff.rfl⟩

set_option maxHeartbeats 4000000 in
/-- The body at a point with coordinates `i`, for any continuation: from the blocks `x2` … `x8`, the result's buffer at `x9` and the
    scratch at `S`, it returns with the blocks as they were and the scratch and the result's buffer updated. -/
theorem run_body (c : Dev nD) (i : grid0.Coords)
    (arg2 : Memref sig .tc .vmem S1024x128 .f32) (harg2 : arg2.IsWhole)
    (arg3 : Memref sig .tc .vmem S1024x128 .f32) (harg3 : arg3.IsWhole)
    (arg4 : Memref sig .tc .vmem S1024x1024 .f32) (harg4 : arg4.IsWhole)
    (arg5 : Memref sig .tc .vmem S128x128 .f32) (harg5 : arg5.IsWhole)
    (arg6 : Memref sig .tc .vmem S128x1 .f32) (harg6 : arg6.IsWhole)
    (arg7 : Memref sig .tc .vmem S128x1 .f32) (harg7 : arg7.IsWhole)
    (arg8 : Memref sig .tc .vmem S1x128 .f32) (harg8 : arg8.IsWhole)
    (arg9 : Memref sig .tc .vmem S1024x128 .f32) (harg9 : arg9.IsWhole)
    (arg10 : Memref sig .tc .vmem S1024x128 .f32) (harg10 : arg10.IsWhole)
    (arg11 : Memref sig .tc .vmem S1024x1 .f32) (harg11 : arg11.IsWhole)
    (arg12 : Memref sig .tc .vmem S1024x1 .f32) (harg12 : arg12.IsWhole)
    (arg13 : Memref sig .tc .vmem S1024x1 .f32) (harg13 : arg13.IsWhole)
    (arg14 : Memref sig .tc .vmem S128x1 .f32) (harg14 : arg14.IsWhole)
    (arg15 : Memref sig .tc .vmem S128x1 .f32) (harg15 : arg15.IsWhole)
    (x2 x3 : Vec F S1024x128 .f32) (x4 : Vec F S1024x1024 .f32) (x5 : Vec F S128x128 .f32) (x6 x7 : Vec F S128x1 .f32)
    (x8 : Vec F S1x128 .f32) (x9 : Vec F S1024x128 .f32) (S : Scr F) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare S.acc
        ∗ owns (c : Thread nD τ) arg11 fullShare S.mx
        ∗ owns (c : Thread nD τ) arg12 fullShare S.l
        ∗ owns (c : Thread nD τ) arg13 fullShare S.s
        ∗ owns (c : Thread nD τ) arg14 fullShare S.ws
        ∗ owns (c : Thread nD τ) arg15 fullShare S.wt
        ∗ (iprop(owns (c : Thread nD τ) arg2 fullShare x2
          ∗ owns (c : Thread nD τ) arg3 fullShare x3
          ∗ owns (c : Thread nD τ) arg4 fullShare x4
          ∗ owns (c : Thread nD τ) arg5 fullShare x5
          ∗ owns (c : Thread nD τ) arg6 fullShare x6
          ∗ owns (c : Thread nD τ) arg7 fullShare x7
          ∗ owns (c : Thread nD τ) arg8 fullShare x8
          ∗ owns (c : Thread nD τ) arg9 fullShare (outS i x5 x8 (stepS i x3 x4 (startS i x2 x5 x6 x7 S)) x9)
          ∗ owns (c : Thread nD τ) arg10 fullShare (stepS i x3 x4 (startS i x2 x5 x6 x7 S)).acc
          ∗ owns (c : Thread nD τ) arg11 fullShare (stepS i x3 x4 (startS i x2 x5 x6 x7 S)).mx
          ∗ owns (c : Thread nD τ) arg12 fullShare (stepS i x3 x4 (startS i x2 x5 x6 x7 S)).l
          ∗ owns (c : Thread nD τ) arg13 fullShare (stepS i x3 x4 (startS i x2 x5 x6 x7 S)).s
          ∗ owns (c : Thread nD τ) arg14 fullShare (stepS i x3 x4 (startS i x2 x5 x6 x7 S)).ws
          ∗ owns (c : Thread nD τ) arg15 fullShare (stepS i x3 x4 (startS i x2 x5 x6 x7 S)).wt) -∗ K ⟨⟩))
      ⊢ wp frame (wpE (defs₀ (F := F)) Variants.none c none) Set.univ
          (cc0__flash_kernel i arg2 harg2 arg3 harg3 arg4 harg4 arg5 harg5 arg6 harg6 arg7 harg7 arg8 harg8 arg9 harg9 arg10 harg10 arg11 harg11 arg12 harg12 arg13 harg13 arg14 harg14 arg15 harg15) K := by
  have e0 : Iff (Scalar.cmpi .ne (Scalar.extui (Scalar.cmpi .eq (BitVec.ofNat 32 (i 1).val) 0#32) : BitVec 32) 0#32 = 1#1) ((i 1).val = 0) := cond_eq (i 1) 0
  have e9 : Iff (Scalar.cmpi .ne (Scalar.extui (Scalar.cmpi .eq (BitVec.ofNat 32 (i 1).val) 9#32) : BitVec 32) 0#32 = 1#1) ((i 1).val = 9) := cond_eq (i 1) 9
  have ed := cond_eq (i 0) (i 1)
  have e9' : Iff (k0_cond4 i = 1#1) ((i 1).val = 9) := cond_eq (i 1) 9
  simp only [cc0__flash_kernel_eq_skeleton, k0_part2_eq_skeleton, k0_part1_eq_skeleton, cc0__flash_kernel_skel, k0_part2_skel, k0_part1_skel]
  simp only [e0, e9, ed, e9']
  unfold owns stepS startS outS adj
  iintro ⟨⟨%f2, %g2, H2⟩, ⟨%f3, %g3, H3⟩, ⟨%f4, %g4, H4⟩, ⟨%f5, %g5, H5⟩, ⟨%f6, %g6, H6⟩, ⟨%f7, %g7, H7⟩, ⟨%f8, %g8, H8⟩, ⟨%f9, %g9, H9⟩, ⟨%f10, %g10, H10⟩, ⟨%f11, %g11, H11⟩, ⟨%f12, %g12, H12⟩, ⟨%f13, %g13, H13⟩, ⟨%f14, %g14, H14⟩, ⟨%f15, %g15, H15⟩, Hk⟩
  obtain rfl := harg2.eq_unread g2
  obtain rfl := harg3.eq_unread g3
  obtain rfl := harg4.eq_unread g4
  obtain rfl := harg5.eq_unread g5
  obtain rfl := harg6.eq_unread g6
  obtain rfl := harg7.eq_unread g7
  obtain rfl := harg8.eq_unread g8
  obtain rfl := harg9.eq_unread g9
  obtain rfl := harg10.eq_unread g10
  obtain rfl := harg11.eq_unread g11
  obtain rfl := harg12.eq_unread g12
  obtain rfl := harg13.eq_unread g13
  obtain rfl := harg14.eq_unread g14
  obtain rfl := harg15.eq_unread g15
  obtain ⟨P0, p0⟩ : ∃ P : Prop, Iff ((i 1).val = 0) P := prop_name _
  obtain ⟨P9, p9⟩ : ∃ P : Prop, Iff ((i 1).val = 9) P := prop_name _
  obtain ⟨Pd, pd⟩ : ∃ P : Prop, Iff ((i 0).val = (i 1).val) P := prop_name _
  have p09 : ¬ (P0 ∧ P9) := by rw [← p0, ← p9]; omega
  haveI := Classical.propDecidable P0
  haveI := Classical.propDecidable P9
  haveI := Classical.propDecidable Pd
  simp only [p0, p9, pd]
  clear p0 p9 pd e0 e9 ed e9'
  by_cases h0 : P0 <;> by_cases h9 : P9 <;> by_cases hd : Pd
  all_goals first
    | (exfalso; apply p09; constructor <;> assumption)
    | simp only [h0, h9, hd, dif_pos, dif_neg, if_pos, if_neg, not_false_eq_true, ↓reduceDIte, ↓reduceIte]
  all_goals sl_exec
  all_goals sl_step
  all_goals iapply Hk
  all_goals (isplitl [H2]; focus (iexists _; isplitr; swap; (iexact H2); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H3]; focus (iexists _; isplitr; swap; (iexact H3); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H4]; focus (iexists _; isplitr; swap; (iexact H4); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H5]; focus (iexists _; isplitr; swap; (iexact H5); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H6]; focus (iexists _; isplitr; swap; (iexact H6); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H7]; focus (iexists _; isplitr; swap; (iexact H7); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H8]; focus (iexists _; isplitr; swap; (iexact H8); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H9]; focus (iexists _; isplitr; swap; (iexact H9); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H10]; focus (iexists _; isplitr; swap; (iexact H10); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H11]; focus (iexists _; isplitr; swap; (iexact H11); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H12]; focus (iexists _; isplitr; swap; (iexact H12); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H13]; focus (iexists _; isplitr; swap; (iexact H13); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (isplitl [H14]; focus (iexists _; isplitr; swap; (iexact H14); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _))
  all_goals (iexists _; isplitr; swap; (iexact H15); ipureintro; sl_unfold_words; simp (maxDischargeDepth := 8) only [initS, View.read_writes_full, View.readAt_eq_ld, Memref.IsWhole.read_unread, View.ld_unit_zero (S := S1024x128) hz2, View.ld_unit_zero (S := S1024x1024) hz2, View.ld_unit_zero (S := S1024x1) hz2, View.ld_unit_zero (S := S128x1) hz2, View.ld_unit_zero (S := S128x128) hz2, View.ld_unit_zero (S := S1x128) hz2, View.readCov_unit_zero (S := S1024x128) _ hz2, View.readCov_unit_zero (S := S1024x1) _ hz2, View.readCov_unit_zero (S := S128x1) _ hz2]; first | done | exact View.read_writes_full _ _ _ _ _)

end Cert.KernelIdeal.Hand

end
-- ==== Proof.Run.lean ====
/-
  The run of the kernel's program, at any values. The grid's points carry the six scratch buffers along, and what is known of
  them between two points is a parameter `I` that every point must keep. The frames take it to be `True`; the value claim
  takes it to say what the scratch buffers hold.
-/
module

public import proofs.«01_k».proof.Proof.Body
public import proofs.«01_k».proof.Proof.Gen.KernelIdeal.Points
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The blocks the body is handed -/

/-- The row block's features at a point. -/
def xrow (c : Dev nD) (t : Fin cfg0.N) : Vec F S1024x128 .f32 := iblk m c 0 t
/-- The column block's features at a point. -/
def xcol (c : Dev nD) (t : Fin cfg0.N) : Vec F S1024x128 .f32 := iblk m c 1 t
/-- The weights. -/
def wblk (c : Dev nD) (t : Fin cfg0.N) : Vec F S128x128 .f32 := iblk m c 3 t
/-- The attention vector of the receiving node. -/
def sblk (c : Dev nD) (t : Fin cfg0.N) : Vec F S128x1 .f32 := iblk m c 4 t
/-- The attention vector of the sending node. -/
def nblk (c : Dev nD) (t : Fin cfg0.N) : Vec F S128x1 .f32 := iblk m c 5 t
/-- The bias. -/
def bblk (c : Dev nD) (t : Fin cfg0.N) : Vec F S1x128 .f32 := iblk m c 6 t
/-- The adjacency block at a point: the part inside the array, over whatever the buffer held. -/
def gblk (c : Dev nD) (t : Fin cfg0.N) (d : Vec F S1024x1024 .f32) : Vec F S1024x1024 .f32 :=
  (cfg0.win 2).fill (cfg0.grid.coords t) d (iblk m c 2 t)

/-- The scratch after the point `t` that finds it at `S`. -/
def nextS (c : Dev nD) (t : Fin cfg0.N) (d : Vec F S1024x1024 .f32) (S : Scr F) : Scr F :=
  stepS (cfg0.grid.coords t) (xcol m c t) (gblk m c t d)
    (startS (cfg0.grid.coords t) (xrow m c t) (wblk m c t) (sblk m c t) (nblk m c t) S)

/-- What is known of the scratch, `I c n S` before point `n`, is kept by every point, which may assume nothing of the scratch in
    the first column of blocks. -/
def Keeps (I : Dev nD → ℕ → Scr F → Prop) : Prop :=
  ∀ (c : Dev nD) (t : Fin cfg0.N) (d : Vec F S1024x1024 .f32) (S : Scr F),
    (t.val % 10 = 0 ∨ I c t.val S) → I c (t.val + 1) (nextS m c t d S)

variable (I : Dev nD → ℕ → Scr F → Prop)

/-! ## The data of the run -/

/-- The scratch buffers of core `c` at `S`. -/
def held (c : Dev nD) (S : Scr F) : sProp 𝕄 :=
  iprop(owns (c : Thread nD τ) (Memref.whole cc0_scratch0) fullShare S.acc
    ∗ owns (c : Thread nD τ) (Memref.whole cc0_scratch1) fullShare S.mx
    ∗ owns (c : Thread nD τ) (Memref.whole cc0_scratch2) fullShare S.l
    ∗ owns (c : Thread nD τ) (Memref.whole cc0_scratch3) fullShare S.s
    ∗ owns (c : Thread nD τ) (Memref.whole cc0_scratch4) fullShare S.ws
    ∗ owns (c : Thread nD τ) (Memref.whole cc0_scratch5) fullShare S.wt)

/-- The proof data on core `c`: every input's buffer is left as found; the result's buffer, in the last column of blocks, holds the
    quotient of scratch of which `I` is known; between the points the scratch is held at contents of which `I` is known. -/
def rdat (c : Dev nD) : RDat τ (Elt F) Unit ℕ (UR sig nD τ) ℕ cfg0 c where
  A w := V m c (Pipeline.arrRef spec0 w)
  after := fun w => match w with
    | 0 => fun _ Y X => X = Y
    | 1 => fun _ Y X => X = Y
    | 2 => fun _ Y X => X = Y
    | 3 => fun _ Y X => X = Y
    | 4 => fun _ Y X => X = Y
    | 5 => fun _ Y X => X = Y
    | 6 => fun _ Y X => X = Y
    | 7 => fun t _ X => t.val % 10 = 9 → ∃ S : Scr F, I c (t.val + 1) S ∧ X = k0_pay4 S.acc S.l (wblk m c t) (bblk m c t)
  Φ n := iprop((∃ S : Scr F, ⌜n.val % 10 = 0 ∨ I c n.val S⌝ ∗ held c S) ∗ ∃ r, prngReg c r)
  q w := Pipeline.shareOf spec0 w
  owed _ := 0

/-- The column of blocks of a point. -/
theorem coords_1 (t : Fin cfg0.N) : ((cfg0.grid.coords t) 1).val = t.val % 10 := by
  revert t; decide

/-- The row of blocks of a point. -/
theorem coords_0 (t : Fin cfg0.N) : ((cfg0.grid.coords t) 0).val = t.val / 10 := by
  revert t; decide

/-! ## The body at a point -/

theorem found0 (c : Dev nD) (t : Fin cfg0.N) (Y) (h : (rdat m I c).Finds 0 t Y) : Y = xrow m c t := by
  obtain ⟨d, rfl⟩ := (rdat m I c).finds_in_eq_fetched 0 rfl (fun _ _ _ => rfl) (fun _ _ _ h => h) t Y h
  rfl
theorem found1 (c : Dev nD) (t : Fin cfg0.N) (Y) (h : (rdat m I c).Finds 1 t Y) : Y = xcol m c t := by
  obtain ⟨d, rfl⟩ := (rdat m I c).finds_in_eq_fetched 1 rfl (fun _ _ _ => rfl) (fun _ _ _ h => h) t Y h
  rfl
theorem found2 (c : Dev nD) (t : Fin cfg0.N) (Y) (h : (rdat m I c).Finds 2 t Y) : ∃ d, Y = gblk m c t d := by
  obtain ⟨d, rfl⟩ := ((rdat m I c).finds_of_fetch (fetch0_2 t) Y).mp h
  exact ⟨d, rfl⟩
theorem found3 (c : Dev nD) (t : Fin cfg0.N) (Y) (h : (rdat m I c).Finds 3 t Y) : Y = wblk m c t := by
  obtain ⟨d, rfl⟩ := (rdat m I c).finds_in_eq_fetched 3 rfl (fun _ _ _ => rfl) (fun _ _ _ h => h) t Y h
  rfl
theorem found4 (c : Dev nD) (t : Fin cfg0.N) (Y) (h : (rdat m I c).Finds 4 t Y) : Y = sblk m c t := by
  obtain ⟨d, rfl⟩ := (rdat m I c).finds_in_eq_fetched 4 rfl (fun _ _ _ => rfl) (fun _ _ _ h => h) t Y h
  rfl
theorem found5 (c : Dev nD) (t : Fin cfg0.N) (Y) (h : (rdat m I c).Finds 5 t Y) : Y = nblk m c t := by
  obtain ⟨d, rfl⟩ := (rdat m I c).finds_in_eq_fetched 5 rfl (fun _ _ _ => rfl) (fun _ _ _ h => h) t Y h
  rfl
theorem found6 (c : Dev nD) (t : Fin cfg0.N) (Y) (h : (rdat m I c).Finds 6 t Y) : Y = bblk m c t := by
  obtain ⟨d, rfl⟩ := (rdat m I c).finds_in_eq_fetched 6 rfl (fun _ _ _ => rfl) (fun _ _ _ h => h) t Y h
  rfl

variable {I}

/-- The body at point `t`: the scratch taken out of the invariant, the body's run, the scratch put back. -/
theorem sound_body (hI : Keeps m I) (c : Dev nD) (t : Fin cfg0.N) (Y : (w : Fin cfg0.W) → (cfg0.win w).block.Idx → Elt F (cfg0.win w).elt)
    (hY : ∀ w, (rdat m I c).Finds w t (Y w)) :
    iprop((rdat m I c).Φ t.castSucc ∗ (rdat m I c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4) ∗ owns (c : Thread nD τ) (st0_5 t) fullShare (Y 5)
        ∗ owns (c : Thread nD τ) (st0_6 t) fullShare (Y 6) ∗ owns (c : Thread nD τ) (st0_7 t) fullShare (Y 7))
      ⊢ wp frame (wpE (defs₀ (F := F)) Variants.none c none) Set.univ (bodyAt0 t) (fun _ =>
        iprop((rdat m I c).Φ t.succ ∗ (rdat m I c).owesAt () t.succ
        ∗ (∃ X, ⌜(rdat m I c).after 0 t (Y 0) X⌝ ∗ owns (c : Thread nD τ) (st0_0 t) fullShare X)
        ∗ (∃ X, ⌜(rdat m I c).after 1 t (Y 1) X⌝ ∗ owns (c : Thread nD τ) (st0_1 t) fullShare X)
        ∗ (∃ X, ⌜(rdat m I c).after 2 t (Y 2) X⌝ ∗ owns (c : Thread nD τ) (st0_2 t) fullShare X)
        ∗ (∃ X, ⌜(rdat m I c).after 3 t (Y 3) X⌝ ∗ owns (c : Thread nD τ) (st0_3 t) fullShare X)
        ∗ (∃ X, ⌜(rdat m I c).after 4 t (Y 4) X⌝ ∗ owns (c : Thread nD τ) (st0_4 t) fullShare X)
        ∗ (∃ X, ⌜(rdat m I c).after 5 t (Y 5) X⌝ ∗ owns (c : Thread nD τ) (st0_5 t) fullShare X)
        ∗ (∃ X, ⌜(rdat m I c).after 6 t (Y 6) X⌝ ∗ owns (c : Thread nD τ) (st0_6 t) fullShare X)
        ∗ (∃ X, ⌜(rdat m I c).after 7 t (Y 7) X⌝ ∗ owns (c : Thread nD τ) (st0_7 t) fullShare X))) := by
  obtain ⟨d, h2⟩ := found2 m I c t _ (hY 2)
  have h0 := found0 m I c t _ (hY 0)
  have h1 := found1 m I c t _ (hY 1)
  have h3 := found3 m I c t _ (hY 3)
  have h4 := found4 m I c t _ (hY 4)
  have h5 := found5 m I c t _ (hY 5)
  have h6 := found6 m I c t _ (hY 6)
  generalize Y 7 = y7
  rw [h0, h1, h2, h3, h4, h5, h6]
  clear h0 h1 h2 h3 h4 h5 h6 hY
  rw [show (rdat m I c).owesAt () t.succ = (rdat m I c).owesAt () t.castSucc from rfl,
    show (rdat m I c).Φ t.castSucc = iprop((∃ S : Scr F, ⌜t.val % 10 = 0 ∨ I c t.val S⌝ ∗ held c S) ∗ ∃ r, prngReg c r) from rfl,
    show (rdat m I c).Φ t.succ = iprop((∃ S : Scr F, ⌜(t.val + 1) % 10 = 0 ∨ I c (t.val + 1) S⌝ ∗ held c S) ∗ ∃ r, prngReg c r) from rfl]
  unfold held bodyAt0
  iintro ⟨⟨⟨%S, %hS, Hs0, Hs1, Hs2, Hs3, Hs4, Hs5⟩, Hg⟩, HO, H0, H1, H2, H3, H4, H5, H6, H7⟩
  have hnext := hI c t d S hS
  iapply (run_body c (cfg0.grid.coords t) _ _ _ _ _ _ _ _ _ _ _ _ _ _ _ _ _ _ _ _ _ _ _ _ _ _ _ _
    (xrow m c t) (xcol m c t) (gblk m c t d) (wblk m c t) (sblk m c t) (nblk m c t) (bblk m c t) y7 S _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  iintro ⟨H0, H1, H2, H3, H4, H5, H6, H7, Hs0, Hs1, Hs2, Hs3, Hs4, Hs5⟩
  isplitl [Hs0 Hs1 Hs2 Hs3 Hs4 Hs5 Hg]
  · isplitr [Hg]; swap; · iexact Hg
    iexists (nextS m c t d S)
    isplitr; · ipureintro; exact Or.inr hnext
    isplitl [Hs0]; · iexact Hs0
    isplitl [Hs1]; · iexact Hs1
    isplitl [Hs2]; · iexact Hs2
    isplitl [Hs3]; · iexact Hs3
    isplitl [Hs4]; · iexact Hs4
    iexact Hs5
  isplitl [HO]; · iexact HO
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  iexists _; isplitr; swap; · iexact H7
  ipureintro
  intro h9
  refine ⟨nextS m c t d S, hnext, ?_⟩
  unfold outS nextS
  rw [if_pos ((coords_1 t).trans h9)]

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (hI : Keeps m I) (c : Dev nD) :
    (rdat m I c).BodyObligation (defs₀ (F := F)) Variants.none () Set.univ := fun t Y hY => by
  rw [bigSep_W0, bigSep_W0, defs₀_row]
  exact triple_restated (sound_body m hI c t Y hY) rfl .rfl fun _ => .rfl

/-! ## The launch -/

theorem phi_in (c : Dev nD) : Pipeline.ΦA spec0 c ⊢ (rdat m I c).Φ 0 := by
  unfold Pipeline.ΦA
  rw [scopedRest0_eq, show (rdat m I c).Φ 0 = iprop((∃ S : Scr F, ⌜0 % 10 = 0 ∨ I c 0 S⌝ ∗ held c S) ∗ ∃ r, prngReg c r) from rfl]
  unfold held
  simp only [owns_whole]
  iintro ⟨⟨⟨%f0, H0⟩, ⟨%f1, H1⟩, ⟨%f2, H2⟩, ⟨%f3, H3⟩, ⟨%f4, H4⟩, ⟨%f5, H5⟩⟩, Hg⟩
  isplitr [Hg]; swap; · iexact Hg
  iexists (⟨f0, f1, f2, f3, f4, f5⟩ : Scr F)
  isplitr; · ipureintro; exact Or.inl trivial
  isplitl [H0]; · iexact H0
  isplitl [H1]; · iexact H1
  isplitl [H2]; · iexact H2
  isplitl [H3]; · iexact H3
  isplitl [H4]; · iexact H4
  iexact H5

theorem phi_out (c : Dev nD) : (rdat m I c).Φ (Fin.last cfg0.N) ⊢ Pipeline.ΦA spec0 c := by
  unfold Pipeline.ΦA
  rw [scopedRest0_eq, show (rdat m I c).Φ (Fin.last cfg0.N)
    = iprop((∃ S : Scr F, ⌜(Fin.last cfg0.N).val % 10 = 0 ∨ I c (Fin.last cfg0.N).val S⌝ ∗ held c S) ∗ ∃ r, prngReg c r) from rfl]
  unfold held
  simp only [owns_whole]
  iintro ⟨⟨%S, %hS, H0, H1, H2, H3, H4, H5⟩, Hg⟩
  isplitr [Hg]; swap; · iexact Hg
  isplitl [H0]; · iexists _; iexact H0
  isplitl [H1]; · iexists _; iexact H1
  isplitl [H2]; · iexists _; iexact H2
  isplitl [H3]; · iexists _; iexact H3
  isplitl [H4]; · iexists _; iexact H4
  iexists _; iexact H5

set_option backward.isDefEq.respectTransparency.types false in
/-- From any memory with zero counters, every weakly fair execution of @main on the TensorCores terminates; every final state has
    the arrays as the proof data say and every semaphore counter at zero. -/
theorem run_main (hI : Keeps m I) :
    θ_run defs (onTc (τ := τ) (main (F := F))) (s₀ m ρ)
      (fun r => Pipeline.RDat.FramePost (cfgs 0) (rdat m I) (V m) r ∧ r.2.sem = fun _ => 0) :=
  Pipeline.RDat.θ_run_frame_track_shared (Q' := _) cfgs (0 : Fin 1) launch₀0 defs₀ Variants.none (rdat m I) m ρ main
    (hbody := fun c => body_obligation m hI c) (hq := fun _ _ _ => rfl)
    (howed := fun _ _ => rfl) (V := V m) (hmain := hmain m Variants.none) (hA := fun _ _ => rfl)
    (hin := phi_in m) (hout := phi_out m) (hQ' := fun _ h => h)

/-- Of a final state of the run, the argument arrays: none has changed. -/
theorem args_of {r : PUnit × MemSt nD τ sig (Elt F)} (h : Pipeline.RDat.FramePost (cfgs 0) (rdat m I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    (h.arr_in c 2 rfl).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame of the program at any values: it terminates, its arguments are unchanged and its semaphore counters end at zero. -/
theorem run_frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of m h.1 c, h.2⟩)
    (run_main m ρ (I := fun _ _ _ => True) fun _ _ _ _ _ => trivial)

end Cert.KernelIdeal.Hand

end
-- ==== Proof.Payload.lean ====
/-
  The kernel's arithmetic at the ideal values, one element at a time: what each stored vector holds at a row and a column, from
  the vectors that the operation reads.
-/
module

public import proofs.«01_k».proof.Proof.Body
public import Idealize.ShloMosaic.Lib.MatmulPlain
public import Idealize.ShloMosaic.Lib.ValueIdx
public import Idealize.ShloMosaic.Lib.IdealHost
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.ValueIdx
open scoped BigOperators

/-- A one-column vector spread over the columns. -/
theorem spread_col {α : Type} {M N : ℕ} (h : (⟨2, ![M, 1]⟩ : Shape).Broadcasts ⟨2, ![M, N]⟩) (x : (⟨2, ![M, 1]⟩ : Shape).Idx → α)
    (r : Fin M) (k : Fin N) : broadcastTo ⟨2, ![M, N]⟩ x h (ix2 r k) = x (ix2 r 0) := by
  refine broadcastTo_apply x h (ix2 r k) (ix2 r 0) (fun a => ?_)
  match a with
  | ⟨0, _⟩ =>
    show r.val = if M = 1 then 0 else r.val
    split
    · have := r.isLt; omega
    · rfl
  | ⟨1, _⟩ => show 0 = if (1 : ℕ) = 1 then 0 else k.val; rw [if_pos rfl]

/-- A one-row vector spread over the rows. -/
theorem spread_row {α : Type} {M N : ℕ} (h : (⟨2, ![1, N]⟩ : Shape).Broadcasts ⟨2, ![M, N]⟩) (x : (⟨2, ![1, N]⟩ : Shape).Idx → α)
    (r : Fin M) (k : Fin N) : broadcastTo ⟨2, ![M, N]⟩ x h (ix2 r k) = x (ix2 0 k) := by
  refine broadcastTo_apply x h (ix2 r k) (ix2 0 k) (fun a => ?_)
  match a with
  | ⟨0, _⟩ => show 0 = if (1 : ℕ) = 1 then 0 else r.val; rw [if_pos rfl]
  | ⟨1, _⟩ =>
    show k.val = if N = 1 then 0 else k.val
    split
    · have := k.isLt; omega
    · rfl

/-- A list read as a column. -/
theorem as_col {α : Type} (x : S1024.Idx → α) (r : Fin 1024) :
    shapeCast S1024x1 x shapeCasts_S1024_S1024x1 (ix2 r 0) = x (ix1 r) := by
  refine shapeCast_apply x shapeCasts_S1024_S1024x1 (ix2 r 0) (ix1 r) ?_
  rw [Shape.rowMajor_val_one, Shape.rowMajor_val_two]
  show r.val = r.val * 1 + 0
  omega

/-- A column read as a row. -/
theorem col_as_row {α : Type} (x : S1024x1.Idx → α) (k : Fin 1024) :
    shapeCast S1x1024 x shapeCasts_S1024x1_S1x1024 (ix2 0 k) = x (ix2 k 0) := by
  refine shapeCast_apply x shapeCasts_S1024x1_S1x1024 (ix2 0 k) (ix2 k 0) ?_
  rw [Shape.rowMajor_val_two, Shape.rowMajor_val_two]
  show k.val * 1 + 0 = 0 * 1024 + k.val
  omega

/-- The index that a row sum reads. -/
theorem lift_row (r : Fin 1024) (k : Fin 1024) : reduces_S1024x1024_S1024.lift (ix1 r) k = ix2 r k := by
  funext a; apply Fin.ext
  match a with
  | ⟨0, _⟩ => rfl
  | ⟨1, _⟩ => rfl

/-- The row sums, added to what was there. -/
theorem pay1_at (p : FVec Ideal S1024x1024 .f32) (l : FVec Ideal S1024x1 .f32) (r : Fin 1024) :
    k0_pay1 (F := Ideal) p l (ix2 r 0) = l (ix2 r 0) + ∑ k : Fin 1024, p (ix2 r k) := by
  unfold k0_pay1
  simp only [shapeCast_self, addf_apply, as_col]
  refine congrArg (l (ix2 r 0) + ·) ?_
  refine (Ideal.multiReduction_add_single _ _ reduces_S1024x1024_S1024 (.inl rfl) rfl (ix1 r)).trans ?_
  refine Finset.sum_congr rfl fun k _ => ?_
  exact congrArg p (lift_row r k)

/-- The product of the weights with the features, added to what was there times the scale. -/
theorem pay2_at (x : FVec Ideal S1024x128 .f32) (p : FVec Ideal S1024x1024 .f32) (sc : FVec Ideal S1024x1 .f32)
    (acc : FVec Ideal S1024x128 .f32) (r : Fin 1024) (d : Fin 128) :
    k0_pay2 (F := Ideal) x p sc acc (ix2 r d) = acc (ix2 r d) * sc (ix2 r 0) + ∑ k : Fin 1024, p (ix2 r k) * x (ix2 k d) := by
  unfold k0_pay2
  simp only [shapeCast_self, addf_apply, mulf_apply, spread_col]
  refine congrArg (acc (ix2 r d) * sc (ix2 r 0) + ·) ?_
  refine (Ideal.matmul_plain_apply (M := 1024) (K := 1024) (N := 128) none p x _ r d).trans ?_
  rw [constant_apply, Ideal.ofBits_zero_f32, zero_add]

/-- The result block. -/
theorem pay4_at (acc : FVec Ideal S1024x128 .f32) (l : FVec Ideal S1024x1 .f32) (w : FVec Ideal S128x128 .f32)
    (b : FVec Ideal S1x128 .f32) (r : Fin 1024) (d : Fin 128) :
    k0_pay4 (F := Ideal) acc l w b (ix2 r d)
      = (∑ e : Fin 128, Ideal.div (acc (ix2 r e)) (l (ix2 r 0)) * w (ix2 e d)) + b (ix2 0 d) := by
  unfold k0_pay4
  simp only [shapeCast_self, addf_apply, spread_row]
  refine congrArg (· + b (ix2 0 d)) ?_
  refine (Ideal.matmul_plain_apply (M := 1024) (K := 128) (N := 128) none _ w _ r d).trans ?_
  rw [constant_apply, Ideal.ofBits_zero_f32, zero_add]
  simp only [divf_apply, spread_col]

/-- The first attention vector through the weights. -/
theorem pay5_at (w : FVec Ideal S128x128 .f32) (a : FVec Ideal S128x1 .f32) (e : Fin 128) :
    k0_pay5 (F := Ideal) w a (ix2 e 0) = ∑ f : Fin 128, w (ix2 e f) * a (ix2 f 0) := by
  unfold k0_pay5
  simp only [shapeCast_self]
  refine (Ideal.matmul_plain_apply (M := 128) (K := 128) (N := 1) none w a _ e 0).trans ?_
  rw [constant_apply, Ideal.ofBits_zero_f32, zero_add]

/-- The second attention vector through the weights. -/
theorem pay6_at (w : FVec Ideal S128x128 .f32) (a : FVec Ideal S128x1 .f32) (e : Fin 128) :
    k0_pay6 (F := Ideal) w a (ix2 e 0) = ∑ f : Fin 128, w (ix2 e f) * a (ix2 f 0) := pay5_at w a e

/-- The row score. -/
theorem pay7_at (x : FVec Ideal S1024x128 .f32) (a : FVec Ideal S128x1 .f32) (r : Fin 1024) :
    k0_pay7 (F := Ideal) x a (ix2 r 0) = ∑ e : Fin 128, x (ix2 r e) * a (ix2 e 0) := by
  unfold k0_pay7
  simp only [shapeCast_self]
  refine (Ideal.matmul_plain_apply (M := 1024) (K := 128) (N := 1) none x a _ r 0).trans ?_
  rw [constant_apply, Ideal.ofBits_zero_f32, zero_add]

/-- The running maximum starts at a real number. -/
theorem pay8_at (r : Fin 1024) : ∃ M : ℝ, (k0_pay8 (F := Ideal)) (ix2 r 0) = (M : EReal) := by
  unfold k0_pay8
  simp only [shapeCast_self, broadcast_apply]
  exact ⟨_, rfl⟩

/-- The running sum starts at zero. -/
theorem pay10_at (r : Fin 1024) : k0_pay10 (F := Ideal) (k0_pay9 (F := Ideal)) (ix2 r 0) = 0 := by
  unfold k0_pay10 k0_pay9
  simp only [shapeCast_self, broadcast_apply]
  exact Ideal.ofBits_zero_f32

/-- The accumulator starts at zero. -/
theorem pay11_at (r : Fin 1024) (d : Fin 128) : (k0_pay11 (F := Ideal)) (ix2 r d) = 0 := by
  unfold k0_pay11
  simp only [shapeCast_self, broadcast_apply]
  exact Ideal.ofBits_zero_f32

theorem pay12_eq (x : FVec Ideal S1024x128 .f32) : k0_pay12 (F := Ideal) x = x := by
  unfold k0_pay12
  exact shapeCast_self x _

theorem pay3_eq (x : FVec Ideal S1024x1 .f32) : k0_pay3 (F := Ideal) x = x := by
  unfold k0_pay3
  exact shapeCast_self x _

/-- The slope of the leaky unit, as the word denotes it. -/
def slope : EReal := Ideal.ofBits .f32 0x3E4CCCCD#32

/-- The logit of a row and a column. -/
theorem pay13_at (x : FVec Ideal S1024x128 .f32) (wt : FVec Ideal S128x1 .f32) (s : FVec Ideal S1024x1 .f32) (r k : Fin 1024) :
    k0_pay13 (F := Ideal) x wt s (ix2 r k)
      = max (s (ix2 r 0) + ∑ e : Fin 128, x (ix2 k e) * wt (ix2 e 0))
          (slope * (s (ix2 r 0) + ∑ e : Fin 128, x (ix2 k e) * wt (ix2 e 0))) := by
  unfold k0_pay13
  simp only [pay12_eq, maximumf_apply, addf_apply, mulf_apply, spread_col, spread_row, broadcast_apply, col_as_row]
  have h := (Ideal.matmul_plain_apply (M := 1024) (K := 128) (N := 1) none x wt (constant S1024x1 .f32 0x00000000#32) k 0).trans
    (by rw [constant_apply, Ideal.ofBits_zero_f32, zero_add])
  have h' : matmul dot_S1024x128_S128x1_S1024x1_1_0_0_1_n_n none x wt (constant S1024x1 .f32 0x00000000#32) (ix2 k 0)
    = ∑ e : Fin 128, x (ix2 k e) * wt (ix2 e 0) := h
  rw [h']
  rfl

/-- The maximum of a row, from minus infinity. -/
theorem rowmax_at (v : FVec Ideal S1024x1024 .f32) (b : BitVec 32) (hb : b = 0xFF800000#32) (hφ : FKind.Formats .f32)
    (hacc : b = FKind.maximumf.neutral .f32 hφ) (r : Fin 1024) :
    multiReduction .maximumf [1] S1024 v b reduces_S1024x1024_S1024 hφ hacc (ix1 r)
      = (Finset.univ : Finset (Fin 1024)).fold max (⊥ : EReal) fun k => v (ix2 r k) := by
  have hbot : (FloatOps.ofBits (F := Ideal) .f32 b : EReal) = ⊥ := by
    rw [hb]
    show Ideal.ofBits .f32 0xFF800000#32 = ⊥
    simp [Ideal.ofBits, Ideal.ieee]
  rw [Ideal.multiReduction_maximumf_single, hbot]
  exact congrArg (Finset.fold max (⊥ : EReal) · (Finset.univ : Finset (Fin 1024))) (funext fun k => congrArg v (lift_row r k))

/-- The running maximum after a point. -/
theorem pay14_at (x : FVec Ideal S1024x128 .f32) (wt : FVec Ideal S128x1 .f32) (s mx : FVec Ideal S1024x1 .f32) (r : Fin 1024) :
    k0_pay14 (F := Ideal) x wt s mx (ix2 r 0)
      = max (mx (ix2 r 0)) ((Finset.univ : Finset (Fin 1024)).fold max (⊥ : EReal) fun k => k0_pay13 (F := Ideal) x wt s (ix2 r k)) := by
  unfold k0_pay14
  generalize k0_pay13 (F := Ideal) x wt s = v
  simp only [maximumf_apply, as_col]
  exact congrArg (max (mx (ix2 r 0))) (rowmax_at v _ rfl _ _ r)

/-- The weight of a row and a column. -/
theorem pay17_at (x : FVec Ideal S1024x128 .f32) (wt : FVec Ideal S128x1 .f32) (s mx : FVec Ideal S1024x1 .f32)
    (A : FVec Ideal S1024x1024 .f32) (r k : Fin 1024) :
    k0_pay17 (F := Ideal) x wt s mx A (ix2 r k)
      = Ideal.exp (k0_pay13 (F := Ideal) x wt s (ix2 r k) - k0_pay14 (F := Ideal) x wt s mx (ix2 r 0)) * A (ix2 r k) := by
  unfold k0_pay17
  simp only [mulf_apply]
  refine congrArg (· * A (ix2 r k)) ?_
  show Ideal.exp _ = _
  rw [subf_apply, spread_col]

/-- The scale of a row. -/
theorem pay18_at (x : FVec Ideal S1024x128 .f32) (wt : FVec Ideal S128x1 .f32) (s mx : FVec Ideal S1024x1 .f32) (r : Fin 1024) :
    k0_pay18 (F := Ideal) x wt s mx (ix2 r 0) = Ideal.exp (mx (ix2 r 0) - k0_pay14 (F := Ideal) x wt s mx (ix2 r 0)) := rfl

theorem pay19_at (x : FVec Ideal S1024x128 .f32) (wt : FVec Ideal S128x1 .f32) (s mx l : FVec Ideal S1024x1 .f32) (r : Fin 1024) :
    k0_pay19 (F := Ideal) x wt s mx l (ix2 r 0) = l (ix2 r 0) * Ideal.exp (mx (ix2 r 0) - k0_pay14 (F := Ideal) x wt s mx (ix2 r 0)) := rfl

/-- A block's column number, as a word. -/
theorem col_word (b : Fin 10) (k : Fin 1024) :
    IntOp.addi (Scalar.muli (BitVec.ofNat 32 b.val) 1024#32) (BitVec.ofNat 32 k.val) = BitVec.ofNat 32 (1024 * b.val + k.val) := by
  show BitVec.ofNat 32 b.val * 1024#32 + BitVec.ofNat 32 k.val = _
  apply BitVec.eq_of_toNat_eq
  have := b.isLt; have := k.isLt
  simp only [BitVec.toNat_add, BitVec.toNat_mul, BitVec.toNat_ofNat]
  omega

/-- The tail of the last column block reads zero. -/
theorem pay15_at (i : grid0.Coords) (g : FVec Ideal S1024x1024 .f32) (r k : Fin 1024) :
    k0_pay15 (F := Ideal) i g (ix2 r k) = if 1024 * (i 1).val + k.val < 10000 then g (ix2 r k) else 0 := by
  unfold k0_pay15
  simp only [select_apply, broadcast_apply]
  have hw : addi (broadcast S1024x1024 (Scalar.muli (BitVec.ofNat 32 (i 1).val) 1024#32))
      (iota .tc S1024x1024 32 [1] iota_S1024x1024_d1_w32) (ix2 r k) = BitVec.ofNat 32 (1024 * (i 1).val + k.val) := by
    refine Eq.trans ?_ (col_word (i 1) k)
    show IntOp.addi _ (iota .tc S1024x1024 32 [1] iota_S1024x1024_d1_w32 (ix2 r k)) = _
    rw [iota_single_apply]; rfl
  have hc : cmpi .slt (addi (broadcast S1024x1024 (Scalar.muli (BitVec.ofNat 32 (i 1).val) 1024#32))
      (iota .tc S1024x1024 32 [1] iota_S1024x1024_d1_w32)) (broadcast S1024x1024 10000#32) (ix2 r k)
      = if 1024 * (i 1).val + k.val < 10000 then 1#1 else 0#1 := by
    show IntOp.cmpi .slt (addi _ _ (ix2 r k)) 10000#32 = _
    rw [hw]
    have h1 : (i 1).val < 10 := (i 1).isLt
    have := k.isLt
    show BitVec.ofBool ((BitVec.ofNat 32 (1024 * (i 1).val + k.val)).slt 10000#32) = _
    rw [BitVec.slt_eq_decide]
    have e1 : (BitVec.ofNat 32 (1024 * (i 1).val + k.val)).toInt = ((1024 * (i 1).val + k.val : ℕ) : ℤ) := by
      rw [BitVec.toInt_eq_toNat_of_lt] <;> simp only [BitVec.toNat_ofNat] <;> omega
    rw [e1]
    have e2 : (10000#32 : BitVec 32).toInt = 10000 := by decide
    rw [e2]
    split
    · rw [decide_eq_true (by omega)]; rfl
    · rw [decide_eq_false (by omega)]; rfl
  rw [hc]
  split
  · rfl
  · exact Ideal.ofBits_zero_f32

/-- The diagonal reads at least one. -/
theorem pay16_at (i : grid0.Coords) (g : FVec Ideal S1024x1024 .f32) (r k : Fin 1024) :
    k0_pay16 (F := Ideal) i g (ix2 r k)
      = max (g (ix2 r k)) (if 1024 * (i 0).val + r.val = 1024 * (i 1).val + k.val then 1 else 0) := by
  unfold k0_pay16
  rw [maximumf_apply]
  refine congrArg (max (g (ix2 r k))) ?_
  rw [sitofp_apply, extui_apply]
  have hr : addi (broadcast S1024x1024 (Scalar.muli (BitVec.ofNat 32 (i 0).val) 1024#32))
      (iota .tc S1024x1024 32 [0] iota_S1024x1024_d0_w32) (ix2 r k) = BitVec.ofNat 32 (1024 * (i 0).val + r.val) := by
    refine Eq.trans ?_ (col_word (i 0) r)
    show IntOp.addi _ (iota .tc S1024x1024 32 [0] iota_S1024x1024_d0_w32 (ix2 r k)) = _
    rw [iota_single_apply]; rfl
  have hk : addi (broadcast S1024x1024 (Scalar.muli (BitVec.ofNat 32 (i 1).val) 1024#32))
      (iota .tc S1024x1024 32 [1] iota_S1024x1024_d1_w32) (ix2 r k) = BitVec.ofNat 32 (1024 * (i 1).val + k.val) := by
    refine Eq.trans ?_ (col_word (i 1) k)
    show IntOp.addi _ (iota .tc S1024x1024 32 [1] iota_S1024x1024_d1_w32 (ix2 r k)) = _
    rw [iota_single_apply]; rfl
  have h0 : (i 0).val < 10 := (i 0).isLt
  have h1 : (i 1).val < 10 := (i 1).isLt
  have := r.isLt; have := k.isLt
  have hc : cmpi .eq (addi (broadcast S1024x1024 (Scalar.muli (BitVec.ofNat 32 (i 0).val) 1024#32))
      (iota .tc S1024x1024 32 [0] iota_S1024x1024_d0_w32)) (addi (broadcast S1024x1024 (Scalar.muli (BitVec.ofNat 32 (i 1).val) 1024#32))
      (iota .tc S1024x1024 32 [1] iota_S1024x1024_d1_w32)) (ix2 r k)
      = if 1024 * (i 0).val + r.val = 1024 * (i 1).val + k.val then 1#1 else 0#1 := by
    show IntOp.cmpi .eq (addi _ _ (ix2 r k)) (addi _ _ (ix2 r k)) = _
    rw [hr, hk]
    show BitVec.ofBool (BitVec.ofNat 32 _ == BitVec.ofNat 32 _) = _
    split
    · next h => rw [h]; simp
    · next h =>
      have : (BitVec.ofNat 32 (1024 * (i 0).val + r.val) == BitVec.ofNat 32 (1024 * (i 1).val + k.val)) = false := by
        rw [beq_eq_false_iff_ne]
        intro e
        have e' := congrArg BitVec.toNat e
        simp only [BitVec.toNat_ofNat] at e'
        omega
      rw [this]; rfl
  rw [hc]
  show (((BitVec.setWidth 32 _).toInt : ℝ) : EReal) = _
  split
  · simp
  · simp

end Cert.KernelIdeal.Hand

end
-- ==== Proof.Blocks.lean ====
/-
  What the blocks handed to the body hold, at a row and a column: entries of the argument arrays, and zero in the rows by which the
  features are padded.
-/
module

public import proofs.«01_k».proof.Proof.Run
public import proofs.«01_k».proof.Proof.Payload
public import Idealize.ShloMosaic.Lib.KernelVsHost
public import Idealize.ShloMosaic.Lib.StableHlo.Run

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ)

/-! ## The arrays as the launch finds them -/

theorem V_x (c : Dev nD) : V m c main_call0_v4
    = pad S10240x128 ![0, 0] ![240, 0] ![0, 0] (m ((c.tc : Thread nD τ).loc main_arg0) : FVec Ideal S10000x128 .f32)
        (sitofp (F := Ideal) .f32 (constantI S_ 32 0#32)) pads_S10000x128_S10240x128_02400_000 h_S_ := by
  show StableHlo.after (List.flatten [hostOps0]) _ (Proc.devRef .tc main_call0_v4) = _
  simp only [hostOps0, TRef.reshape, TRef.binary, TRef.nullary, TRef.unary, TRef.toBuf, TRef.ofBuf, cast_eq, List.flatten_cons, List.flatten_nil, List.append_nil, List.cons_append, List.nil_append]
  after_results_simp <;> rfl

theorem V_w (c : Dev nD) : V m c main_call0_v0
    = shapeCast S128x128 (m ((c.tc : Thread nD τ).loc main_arg2)) shapeCasts_S128x1x128_S128x128 := by
  show StableHlo.after (List.flatten [hostOps0]) _ (Proc.devRef .tc main_call0_v0) = _
  simp only [hostOps0, TRef.reshape, TRef.binary, TRef.nullary, TRef.unary, TRef.toBuf, TRef.ofBuf, cast_eq, List.flatten_cons, List.flatten_nil, List.append_nil, List.cons_append, List.nil_append]
  after_results_simp <;> rfl

theorem V_p (c : Dev nD) : V m c main_call0_v1
    = shapeCast S128x1 (m ((c.tc : Thread nD τ).loc main_arg3)) shapeCasts_S128x1x1_S128x1 := by
  show StableHlo.after (List.flatten [hostOps0]) _ (Proc.devRef .tc main_call0_v1) = _
  simp only [hostOps0, TRef.reshape, TRef.binary, TRef.nullary, TRef.unary, TRef.toBuf, TRef.ofBuf, cast_eq, List.flatten_cons, List.flatten_nil, List.append_nil, List.cons_append, List.nil_append]
  after_results_simp <;> rfl

theorem V_q (c : Dev nD) : V m c main_call0_v2
    = shapeCast S128x1 (m ((c.tc : Thread nD τ).loc main_arg4)) shapeCasts_S128x1x1_S128x1 := by
  show StableHlo.after (List.flatten [hostOps0]) _ (Proc.devRef .tc main_call0_v2) = _
  simp only [hostOps0, TRef.reshape, TRef.binary, TRef.nullary, TRef.unary, TRef.toBuf, TRef.ofBuf, cast_eq, List.flatten_cons, List.flatten_nil, List.append_nil, List.cons_append, List.nil_append]
  after_results_simp <;> rfl

theorem V_b (c : Dev nD) : V m c main_call0_v3
    = shapeCast S1x128 (m ((c.tc : Thread nD τ).loc main_arg5)) shapeCasts_S128_S1x128 := by
  show StableHlo.after (List.flatten [hostOps0]) _ (Proc.devRef .tc main_call0_v3) = _
  simp only [hostOps0, TRef.reshape, TRef.binary, TRef.nullary, TRef.unary, TRef.toBuf, TRef.ofBuf, cast_eq, List.flatten_cons, List.flatten_nil, List.append_nil, List.cons_append, List.nil_append]
  after_results_simp <;> rfl

/-- The features, zero past the last node. -/
def padX (c : Dev nD) (n : ℕ) (e : Fin 128) : EReal :=
  if h : n < 10000 then (m ((c.tc : Thread nD τ).loc main_arg0) : S10000x128.Idx → EReal) (ix2 ⟨n, h⟩ e) else 0

/-- The padded features at a row. -/
theorem V_x_at (c : Dev nD) (n : Fin 10240) (e : Fin 128) :
    (V m c main_call0_v4 : S10240x128.Idx → EReal) (ix2 n e) = padX m c n.val e := by
  rw [V_x]
  unfold padX
  split
  · next h =>
    exact pad_apply_of_inside _ _ _ _ _ _ _ _ (ix2 ⟨n.val, h⟩ e) (fun a => by
      match a with
      | ⟨0, _⟩ => show n.val = 0 + n.val * 1; omega
      | ⟨1, _⟩ => show e.val = 0 + e.val * 1; omega)
  · next h =>
    refine (pad_apply_of_not_inside _ _ _ _ _ _ _ _ (0 : Fin 2) (fun hin => h ?_)).trans ?_
    · have h3 := hin.2.2
      have h4 : (n.val - 0) / 1 < 10000 := h3
      omega
    · show ((((0#32 : BitVec 32).toInt : ℝ)) : EReal) = 0
      simp

/-! ## Where the blocks lie -/

theorem index_0 : ∀ t : Fin cfg0.N, win0_0.index t (0 : Fin 2) = t.val / 10 ∧ win0_0.index t (1 : Fin 2) = 0 :=
  (by decide +kernel : ∀ t : Fin grid0.N, _)
theorem index_1 : ∀ t : Fin cfg0.N, win0_1.index t (0 : Fin 2) = t.val % 10 ∧ win0_1.index t (1 : Fin 2) = 0 :=
  (by decide +kernel : ∀ t : Fin grid0.N, _)
theorem index_2 : ∀ t : Fin cfg0.N, win0_2.index t (0 : Fin 2) = t.val / 10 ∧ win0_2.index t (1 : Fin 2) = t.val % 10 :=
  (by decide +kernel : ∀ t : Fin grid0.N, _)
theorem index_3 : ∀ t : Fin cfg0.N, win0_3.index t (0 : Fin 2) = 0 ∧ win0_3.index t (1 : Fin 2) = 0 :=
  (by decide +kernel : ∀ t : Fin grid0.N, _)
theorem index_4 : ∀ t : Fin cfg0.N, win0_4.index t (0 : Fin 2) = 0 ∧ win0_4.index t (1 : Fin 2) = 0 :=
  (by decide +kernel : ∀ t : Fin grid0.N, _)
theorem index_5 : ∀ t : Fin cfg0.N, win0_5.index t (0 : Fin 2) = 0 ∧ win0_5.index t (1 : Fin 2) = 0 :=
  (by decide +kernel : ∀ t : Fin grid0.N, _)
theorem index_6 : ∀ t : Fin cfg0.N, win0_6.index t (0 : Fin 2) = 0 ∧ win0_6.index t (1 : Fin 2) = 0 :=
  (by decide +kernel : ∀ t : Fin grid0.N, _)

/-- How much of the adjacency block lies inside the array. -/
theorem xsize_2 : ∀ t : Fin cfg0.N, win0_2.xsize (grid0.coords t) (0 : Fin 2) = min 1024 (10000 - 1024 * (t.val / 10))
    ∧ win0_2.xsize (grid0.coords t) (1 : Fin 2) = min 1024 (10000 - 1024 * (t.val % 10)) :=
  (by decide +kernel : ∀ t : Fin grid0.N, _)

theorem point_lt (t : Fin cfg0.N) : t.val < 100 := t.isLt

theorem row_lt (t : Fin cfg0.N) (r : Fin 1024) : 1024 * (t.val / 10) + r.val < 10240 := by
  have := point_lt t; have := r.isLt; omega

theorem col_lt (t : Fin cfg0.N) (k : Fin 1024) : 1024 * (t.val % 10) + k.val < 10240 := by
  have := k.isLt; omega

/-! ## The blocks at an index -/

theorem xrow_at (c : Dev nD) (t : Fin cfg0.N) (r : Fin 1024) (e : Fin 128) :
    xrow m c t (ix2 r e) = padX m c (1024 * (t.val / 10) + r.val) e := by
  obtain ⟨e0, e1⟩ := index_0 t
  rw [← V_x_at m c ⟨1024 * (t.val / 10) + r.val, row_lt t r⟩ e]
  show V m c main_call0_v4 (((cfg0.win 0).blk t).view.emb (ix2 r e)) = _
  refine congrArg (V m c main_call0_v4) (funext fun a => Fin.ext ?_)
  match a with
  | ⟨0, _⟩ => show win0_0.index t (0 : Fin 2) * 1024 + 1 * r.val = 1024 * (t.val / 10) + r.val; omega
  | ⟨1, _⟩ => show win0_0.index t (1 : Fin 2) * 128 + 1 * e.val = e.val; omega

theorem xcol_at (c : Dev nD) (t : Fin cfg0.N) (k : Fin 1024) (e : Fin 128) :
    xcol m c t (ix2 k e) = padX m c (1024 * (t.val % 10) + k.val) e := by
  obtain ⟨e0, e1⟩ := index_1 t
  rw [← V_x_at m c ⟨1024 * (t.val % 10) + k.val, col_lt t k⟩ e]
  show V m c main_call0_v4 (((cfg0.win 1).blk t).view.emb (ix2 k e)) = _
  refine congrArg (V m c main_call0_v4) (funext fun a => Fin.ext ?_)
  match a with
  | ⟨0, _⟩ => show win0_1.index t (0 : Fin 2) * 1024 + 1 * k.val = 1024 * (t.val % 10) + k.val; omega
  | ⟨1, _⟩ => show win0_1.index t (1 : Fin 2) * 128 + 1 * e.val = e.val; omega

/-- The adjacency block inside the array. -/
theorem gblk_at (c : Dev nD) (t : Fin cfg0.N) (d : Vec Ideal S1024x1024 .f32) (r k : Fin 1024)
    (hr : 1024 * (t.val / 10) + r.val < 10000) (hk : 1024 * (t.val % 10) + k.val < 10000) :
    gblk m c t d (ix2 r k)
      = (m ((c.tc : Thread nD τ).loc main_arg1) : S10000x10000.Idx → EReal) (ix2 ⟨_, hr⟩ ⟨_, hk⟩) := by
  obtain ⟨e0, e1⟩ := index_2 t
  obtain ⟨x0, x1⟩ := xsize_2 t
  have hmv : win0_2.moved (grid0.coords t) (ix2 r k) = true := (win0_2.moved_iff _ _).mpr fun a => by
    match a with
    | ⟨0, _⟩ => show r.val < win0_2.xsize (grid0.coords t) (0 : Fin 2); have := r.isLt; omega
    | ⟨1, _⟩ => show k.val < win0_2.xsize (grid0.coords t) (1 : Fin 2); have := k.isLt; omega
  show win0_2.fill (grid0.coords t) d (iblk m c 2 t) (ix2 r k) = _
  unfold Pipeline.Window.fill
  rw [dif_pos hmv, ← V_main_arg1 m c]
  show V m c main_arg1 (((cfg0.win 2).blk t).view.emb _) = _
  refine congrArg (V m c main_arg1) (funext fun a => Fin.ext ?_)
  match a with
  | ⟨0, _⟩ => show win0_2.index t (0 : Fin 2) * 1024 + 1 * r.val = 1024 * (t.val / 10) + r.val; omega
  | ⟨1, _⟩ => show win0_2.index t (1 : Fin 2) * 1024 + 1 * k.val = 1024 * (t.val % 10) + k.val; omega

theorem wblk_at (c : Dev nD) (t : Fin cfg0.N) (e d : Fin 128) :
    wblk m c t (ix2 e d) = (m ((c.tc : Thread nD τ).loc main_arg2) : S128x1x128.Idx → EReal) (ix3 e 0 d) := by
  obtain ⟨e0, e1⟩ := index_3 t
  have h : wblk m c t (ix2 e d) = (V m c main_call0_v0 : S128x128.Idx → EReal) (ix2 e d) := by
    show V m c main_call0_v0 (((cfg0.win 3).blk t).view.emb (ix2 e d)) = _
    refine congrArg (V m c main_call0_v0) (funext fun a => Fin.ext ?_)
    match a with
    | ⟨0, _⟩ => show win0_3.index t (0 : Fin 2) * 128 + 1 * e.val = e.val; omega
    | ⟨1, _⟩ => show win0_3.index t (1 : Fin 2) * 128 + 1 * d.val = d.val; omega
  rw [h, V_w]
  exact shapeCast_apply _ _ _ (ix3 e 0 d) (by
    rw [Shape.rowMajor_val_three, Shape.rowMajor_val_two]
    show (e.val * 1 + 0) * 128 + d.val = e.val * 128 + d.val
    omega)

theorem sblk_at (c : Dev nD) (t : Fin cfg0.N) (e : Fin 128) :
    sblk m c t (ix2 e 0) = (m ((c.tc : Thread nD τ).loc main_arg3) : S128x1x1.Idx → EReal) (ix3 e 0 0) := by
  obtain ⟨e0, e1⟩ := index_4 t
  have h : sblk m c t (ix2 e 0) = (V m c main_call0_v1 : S128x1.Idx → EReal) (ix2 e 0) := by
    show V m c main_call0_v1 (((cfg0.win 4).blk t).view.emb (ix2 e 0)) = _
    refine congrArg (V m c main_call0_v1) (funext fun a => Fin.ext ?_)
    match a with
    | ⟨0, _⟩ => show win0_4.index t (0 : Fin 2) * 128 + 1 * e.val = e.val; omega
    | ⟨1, _⟩ => show win0_4.index t (1 : Fin 2) * 1 + 1 * 0 = 0; omega
  rw [h, V_p]
  exact shapeCast_apply _ _ _ (ix3 e 0 0) (by
    rw [Shape.rowMajor_val_three, Shape.rowMajor_val_two]
    show (e.val * 1 + 0) * 1 + 0 = e.val * 1 + 0
    omega)

theorem nblk_at (c : Dev nD) (t : Fin cfg0.N) (e : Fin 128) :
    nblk m c t (ix2 e 0) = (m ((c.tc : Thread nD τ).loc main_arg4) : S128x1x1.Idx → EReal) (ix3 e 0 0) := by
  obtain ⟨e0, e1⟩ := index_5 t
  have h : nblk m c t (ix2 e 0) = (V m c main_call0_v2 : S128x1.Idx → EReal) (ix2 e 0) := by
    show V m c main_call0_v2 (((cfg0.win 5).blk t).view.emb (ix2 e 0)) = _
    refine congrArg (V m c main_call0_v2) (funext fun a => Fin.ext ?_)
    match a with
    | ⟨0, _⟩ => show win0_5.index t (0 : Fin 2) * 128 + 1 * e.val = e.val; omega
    | ⟨1, _⟩ => show win0_5.index t (1 : Fin 2) * 1 + 1 * 0 = 0; omega
  rw [h, V_q]
  exact shapeCast_apply _ _ _ (ix3 e 0 0) (by
    rw [Shape.rowMajor_val_three, Shape.rowMajor_val_two]
    show (e.val * 1 + 0) * 1 + 0 = e.val * 1 + 0
    omega)

theorem bblk_at (c : Dev nD) (t : Fin cfg0.N) (d : Fin 128) :
    bblk m c t (ix2 0 d) = (m ((c.tc : Thread nD τ).loc main_arg5) : S128.Idx → EReal) (ix1 d) := by
  obtain ⟨e0, e1⟩ := index_6 t
  have h : bblk m c t (ix2 0 d) = (V m c main_call0_v3 : S1x128.Idx → EReal) (ix2 0 d) := by
    show V m c main_call0_v3 (((cfg0.win 6).blk t).view.emb (ix2 0 d)) = _
    refine congrArg (V m c main_call0_v3) (funext fun a => Fin.ext ?_)
    match a with
    | ⟨0, _⟩ => show win0_6.index t (0 : Fin 2) * 1 + 1 * 0 = 0; omega
    | ⟨1, _⟩ => show win0_6.index t (1 : Fin 2) * 128 + 1 * d.val = d.val; omega
  rw [h, V_b]
  exact shapeCast_apply _ _ _ (ix1 d) (by
    rw [Shape.rowMajor_val_one, Shape.rowMajor_val_two]
    show d.val = 0 * 128 + d.val
    omega)

end Cert.KernelIdeal.Hand

end
-- ==== Proof.Algebra.lean ====
/-
  The attention layer over the reals: the scores, the running sums that a row keeps while its column blocks come in, and the
  layer's output, to which both the kernel's finish and the reference's softmax are equal.
-/
module

public import Idealize.ShloMosaic.PureOps.Ideal.Laws

@[expose] public section

noncomputable section

namespace Cert.Gat

open scoped BigOperators
open Finset

/-- A finite sum of reals, read as extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The layer's data: the features `x` (zero past the last node), the weights `w`, the two attention vectors `p` and `q`,
    the adjacency matrix with its self loops `g`, the slope `c` of the leaky part. -/
structure Net where
  x : ℕ → Fin 128 → ℝ
  w : Fin 128 → Fin 128 → ℝ
  p : Fin 128 → ℝ
  q : Fin 128 → ℝ
  g : ℕ → ℕ → ℝ
  c : ℝ

namespace Net

variable (N : Net)

/-- The transformed features. -/
def feat (k : ℕ) (d : Fin 128) : ℝ := ∑ e, N.x k e * N.w e d

/-- A node's score as the one that looks. -/
def own (k : ℕ) : ℝ := ∑ e, N.x k e * ∑ f, N.w e f * N.p f

/-- A node's score as a neighbour. -/
def nbr (k : ℕ) : ℝ := ∑ e, N.x k e * ∑ f, N.w e f * N.q f

/-- The score of the pair, after the leaky part. -/
def score (r k : ℕ) : ℝ := max (N.own r + N.nbr k) (N.c * (N.own r + N.nbr k))

/-- The layer's output without its bias: the neighbours' features averaged with the softmax's weights. -/
def att (r : ℕ) (d : Fin 128) : ℝ :=
  (∑ k ∈ range 10000, Real.exp (N.score r k) * N.g r k * N.feat k d) / ∑ k ∈ range 10000, Real.exp (N.score r k) * N.g r k

/-- Row `r`'s weight of the first `K` columns, against the offset `M`. -/
def mass (r : ℕ) (M : ℝ) (K : ℕ) : ℝ := ∑ k ∈ range K, Real.exp (N.score r k - M) * N.g r k

/-- Row `r`'s weighted features of the first `K` columns, against the offset `M`. -/
def pull (r : ℕ) (M : ℝ) (K : ℕ) (d : Fin 128) : ℝ := ∑ k ∈ range K, Real.exp (N.score r k - M) * N.g r k * N.x k d

/-- The vectors applied to the weights first, or to the features: one score. -/
theorem assoc_vec (v : Fin 128 → ℝ) (k : ℕ) : (∑ e, N.x k e * ∑ f, N.w e f * v f) = ∑ d, N.feat k d * v d := by
  simp only [feat, mul_sum, sum_mul]
  rw [sum_comm]
  refine sum_congr rfl fun d _ => sum_congr rfl fun e _ => ?_
  ring

theorem own_eq (k : ℕ) : N.own k = ∑ d, N.feat k d * N.p d := N.assoc_vec N.p k

theorem nbr_eq (k : ℕ) : N.nbr k = ∑ d, N.feat k d * N.q d := N.assoc_vec N.q k

theorem exp_shift (s M M' : ℝ) : Real.exp (s - M') = Real.exp (s - M) * Real.exp (M - M') := by
  rw [← Real.exp_add]; congr 1; ring

theorem mass_zero (r : ℕ) (M : ℝ) : N.mass r M 0 = 0 := by simp [mass]

theorem pull_zero (r : ℕ) (M : ℝ) (d : Fin 128) : N.pull r M 0 d = 0 := by simp [pull]

/-- One more block of columns, and a new offset. -/
theorem mass_step (r : ℕ) (M M' : ℝ) (K B : ℕ) :
    N.mass r M' (K + B) = N.mass r M K * Real.exp (M - M') + ∑ k : Fin B, Real.exp (N.score r (K + k.val) - M') * N.g r (K + k.val) := by
  unfold mass
  rw [sum_range_add, sum_mul, ← Fin.sum_univ_eq_sum_range (fun k => Real.exp (N.score r (K + k) - M') * N.g r (K + k)) B]
  congr 1
  refine sum_congr rfl fun k _ => ?_
  rw [exp_shift (N.score r k) M M']; ring

theorem pull_step (r : ℕ) (M M' : ℝ) (K B : ℕ) (d : Fin 128) :
    N.pull r M' (K + B) d = N.pull r M K d * Real.exp (M - M')
      + ∑ k : Fin B, Real.exp (N.score r (K + k.val) - M') * N.g r (K + k.val) * N.x (K + k.val) d := by
  unfold pull
  rw [sum_range_add, sum_mul, ← Fin.sum_univ_eq_sum_range (fun k => Real.exp (N.score r (K + k) - M') * N.g r (K + k) * N.x (K + k) d) B]
  congr 1
  refine sum_congr rfl fun k _ => ?_
  rw [exp_shift (N.score r k) M M']; ring

/-- Columns past the last node weigh nothing. -/
theorem sum_past {f : ℕ → ℝ} {K : ℕ} (hK : 10000 ≤ K) (hf : ∀ k, 10000 ≤ k → f k = 0) : ∑ k ∈ range K, f k = ∑ k ∈ range 10000, f k := by
  symm
  refine sum_subset (range_subset_range.2 hK) fun k _ hk => hf k ?_
  simpa using hk

theorem mass_shift (r : ℕ) (M : ℝ) (K : ℕ) : N.mass r M K = N.mass r 0 K * Real.exp (-M) := by
  unfold mass
  rw [sum_mul]
  refine sum_congr rfl fun k _ => ?_
  rw [sub_zero, sub_eq_add_neg, Real.exp_add]; ring

/-- A row that has its self loop has a positive weight. -/
theorem mass_pos (r : ℕ) (M : ℝ) (K : ℕ) (hg : ∀ k, 0 ≤ N.g r k) (hr : r < K) (h1 : N.g r r = 1) : 0 < N.mass r M K := by
  unfold mass
  refine sum_pos' (fun k _ => mul_nonneg (Real.exp_pos _).le (hg k)) ⟨r, mem_range.2 hr, ?_⟩
  rw [h1, mul_one]; exact Real.exp_pos _

/-- A quotient of two such sums does not depend on the offset. -/
theorem ratio_shift (r : ℕ) (d : Fin 128) (M : ℝ) (n : ℕ) :
    (∑ k ∈ range n, Real.exp (N.score r k - M) * N.g r k * N.feat k d) / N.mass r M n
      = (∑ k ∈ range n, Real.exp (N.score r k) * N.g r k * N.feat k d) / ∑ k ∈ range n, Real.exp (N.score r k) * N.g r k := by
  have h : (∑ k ∈ range n, Real.exp (N.score r k - M) * N.g r k * N.feat k d)
      = (∑ k ∈ range n, Real.exp (N.score r k) * N.g r k * N.feat k d) * Real.exp (-M) := by
    rw [sum_mul]
    refine sum_congr rfl fun k _ => ?_
    rw [sub_eq_add_neg, Real.exp_add]; ring
  have h0 : N.mass r 0 n = ∑ k ∈ range n, Real.exp (N.score r k) * N.g r k :=
    sum_congr rfl fun k _ => by rw [sub_zero]
  rw [h, mass_shift, mul_div_mul_right _ _ (Real.exp_pos _).ne', h0]

theorem att_eq (r : ℕ) (d : Fin 128) (M : ℝ) :
    (∑ k ∈ range 10000, Real.exp (N.score r k - M) * N.g r k * N.feat k d) / N.mass r M 10000 = N.att r d :=
  N.ratio_shift r d M 10000

/-- The weighted features through the weights are the weighted transformed features. -/
theorem pull_feat (r : ℕ) (M : ℝ) (n : ℕ) (a : ℝ) (d : Fin 128) :
    (∑ e, (N.pull r M n e * a) * N.w e d) = (∑ k ∈ range n, Real.exp (N.score r k - M) * N.g r k * N.feat k d) * a := by
  simp only [pull, feat, sum_mul, mul_sum]
  rw [sum_comm]
  refine sum_congr rfl fun k _ => sum_congr rfl fun e _ => ?_
  ring

/-- The kernel's finish: the weighted features divided by the weight, then through the weights. -/
theorem finish (r : ℕ) (M : ℝ) (K : ℕ) (hK : 10000 ≤ K) (hg : ∀ k, 10000 ≤ k → N.g r k = 0) (d : Fin 128) :
    (∑ e, (N.pull r M K e * (1 / N.mass r M K)) * N.w e d) = N.att r d := by
  rw [← N.att_eq r d M]
  have hm : N.mass r M K = N.mass r M 10000 := sum_past hK fun k hk => by rw [hg k hk, mul_zero]
  have hp : ∀ e, N.pull r M K e = N.pull r M 10000 e := fun e => sum_past hK fun k hk => by rw [hg k hk, mul_zero, zero_mul]
  simp only [hm, hp]
  rw [N.pull_feat r M 10000 _ d, ← div_eq_mul_one_div]

/-- The reference's finish: the features weighted by the normalised weights. -/
theorem softmax_finish (r : ℕ) (M : ℝ) (d : Fin 128) :
    (∑ k : Fin 10000, N.feat k.val d * ((Real.exp (N.score r k.val - M) * N.g r k.val) * (1 / N.mass r M 10000))) = N.att r d := by
  have h : N.att r d = ∑ k ∈ range 10000, Real.exp (N.score r k - M) * N.g r k * N.feat k d * (1 / N.mass r M 10000) := by
    rw [← sum_mul, ← N.att_eq r d M, ← div_eq_mul_one_div]
  rw [h, ← Fin.sum_univ_eq_sum_range (fun k => Real.exp (N.score r k - M) * N.g r k * N.feat k d * (1 / N.mass r M 10000)) 10000]
  refine sum_congr rfl fun k _ => ?_
  ring

end Net

end Cert.Gat

end
-- ==== Proof.Net.lean ====
/-
  The layer's data read off the argument arrays, and the facts of it that the precondition gives.
-/
module

public import proofs.«01_k».proof.Proof.Algebra
public import Idealize.ShloMosaic.Lib.ValueIdx
public import Idealize.ShloMosaic.Lib.IdealHost
public import Idealize.ShloMosaic.Lib.Pipeline.Value

@[expose] public section

noncomputable section

namespace Cert.Gat

open Idealize.ShloMosaic Idealize.ShloMosaic.ValueIdx

/-- The slope of the leaky part, as its word denotes it. -/
def slope : EReal := Ideal.ofBits .f32 0x3E4CCCCD#32

theorem slope_eq : slope = ((13421773 / 67108864 : ℝ) : EReal) := by
  unfold slope
  simp [Ideal.ofBits, Ideal.ieee]
  norm_cast

theorem slope_real : ((slope.toReal : ℝ) : EReal) = slope := by rw [slope_eq]; rfl

theorem slope_bounds : 0 ≤ slope.toReal ∧ slope.toReal ≤ 1 := by
  rw [slope_eq, EReal.toReal_coe]; constructor <;> norm_num

/-- The maximum of two reals, read as extended reals. -/
theorem coe_max (a b : ℝ) : ((max a b : ℝ) : EReal) = max (a : EReal) (b : EReal) :=
  EReal.coe_strictMono.monotone.map_max

/-- A maximum that starts at a real and runs over reals is a real. -/
theorem fold_max_real {ι : Type} (s : Finset ι) (M : ℝ) (f : ι → ℝ) :
    ∃ b : ℝ, max (M : EReal) (s.fold max ⊥ fun k => (f k : EReal)) = (b : EReal) := by
  classical
  induction s using Finset.induction_on with
  | empty => exact ⟨M, by rw [Finset.fold_empty, max_eq_left bot_le]⟩
  | insert a s ha ih =>
    obtain ⟨b, hb⟩ := ih
    refine ⟨max (f a) b, ?_⟩
    rw [Finset.fold_insert ha, coe_max, ← hb, max_left_comm]

variable (x : (⟨2, ![10000, 128]⟩ : Shape).Idx → EReal) (a : (⟨2, ![10000, 10000]⟩ : Shape).Idx → EReal)
  (w : (⟨3, ![128, 1, 128]⟩ : Shape).Idx → EReal) (p q : (⟨3, ![128, 1, 1]⟩ : Shape).Idx → EReal)

/-- The layer of the argument arrays. -/
def netOf : Net where
  x n e := if h : n < 10000 then (x (ix2 ⟨n, h⟩ e)).toReal else 0
  w e f := (w (ix3 e 0 f)).toReal
  p f := (p (ix3 f 0 0)).toReal
  q f := (q (ix3 f 0 0)).toReal
  g r k := if h : r < 10000 ∧ k < 10000 then (if r = k then 1 else (a (ix2 ⟨r, h.1⟩ ⟨k, h.2⟩)).toReal) else 0
  c := slope.toReal

theorem netOf_g_past (r k : ℕ) (hk : 10000 ≤ k) : (netOf x a w p q).g r k = 0 :=
  dif_neg fun h => absurd h.2 (by omega)

theorem netOf_g_self (r : ℕ) (hr : r < 10000) : (netOf x a w p q).g r r = 1 :=
  (dif_pos ⟨hr, hr⟩).trans (if_pos rfl)

/-- An entry of the adjacency matrix with its self loops, off the diagonal. -/
theorem netOf_g_off (r k : ℕ) (hr : r < 10000) (hk : k < 10000) (h : r ≠ k) :
    (netOf x a w p q).g r k = (a (ix2 ⟨r, hr⟩ ⟨k, hk⟩)).toReal :=
  (dif_pos ⟨hr, hk⟩).trans (if_neg h)

theorem toReal_binary (v : EReal) (h : v = 0 ∨ v = 1) : ((v.toReal : ℝ) : EReal) = v ∧ (0 ≤ v.toReal) := by
  rcases h with rfl | rfl <;> simp

theorem netOf_g_nonneg (ha : ∀ i, a i = 0 ∨ a i = 1) (r k : ℕ) : 0 ≤ (netOf x a w p q).g r k := by
  show 0 ≤ dite _ _ _
  split
  · split
    · exact zero_le_one
    · exact (toReal_binary _ (ha _)).2
  · exact le_rfl

end Cert.Gat

end
-- ==== Proof.Step.lean ====
/-
  What the scratch buffers hold while a row of blocks runs: the rows' running sums over the columns seen so far, against an offset
  that differs from row to row. Every point keeps it, and the last one finishes the rows.
-/
module

public import proofs.«01_k».proof.Proof.Blocks
public import proofs.«01_k».proof.Proof.Net

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Cert.Gat (Net)

/-- The scratch of row block `i` after `K` columns. -/
structure Known (N : Net) (i K : ℕ) (S : Scr Ideal) : Prop where
  wt : ∀ e : Fin 128, S.wt (ix2 e 0) = ((∑ f, N.w e f * N.q f : ℝ) : EReal)
  row : ∀ r : Fin 1024, 1024 * i + r.val < 10000 →
    S.s (ix2 r 0) = ((N.own (1024 * i + r.val) : ℝ) : EReal)
      ∧ ∃ M : ℝ, S.mx (ix2 r 0) = (M : EReal) ∧ S.l (ix2 r 0) = ((N.mass (1024 * i + r.val) M K : ℝ) : EReal)
        ∧ ∀ d : Fin 128, S.acc (ix2 r d) = ((N.pull (1024 * i + r.val) M K d : ℝ) : EReal)

variable (N : Net)

/-- The reset scratch has seen no column. -/
theorem known_init (i : ℕ) (x : FVec Ideal S1024x128 .f32) (w : FVec Ideal S128x128 .f32) (a b : FVec Ideal S128x1 .f32)
    (hx : ∀ (r : Fin 1024) (e : Fin 128), x (ix2 r e) = ((N.x (1024 * i + r.val) e : ℝ) : EReal))
    (hw : ∀ e f : Fin 128, w (ix2 e f) = ((N.w e f : ℝ) : EReal))
    (ha : ∀ f : Fin 128, a (ix2 f 0) = ((N.p f : ℝ) : EReal))
    (hb : ∀ f : Fin 128, b (ix2 f 0) = ((N.q f : ℝ) : EReal)) :
    Known N i 0 (initS x w a b) where
  wt e := by
    refine (pay6_at w b e).trans ?_
    simp only [hw, hb, Gat.coe_sum, EReal.coe_mul]
  row r hr := by
    obtain ⟨M, hM⟩ := pay8_at r
    refine ⟨?_, M, hM, ?_, fun d => ?_⟩
    · refine (pay7_at x _ r).trans ?_
      simp only [pay5_at, hx, hw, ha, Net.own, Gat.coe_sum, EReal.coe_mul]
    · rw [N.mass_zero, EReal.coe_zero]; exact pay10_at r
    · rw [N.pull_zero, EReal.coe_zero]; exact pay11_at r d

/-- The logit of a row and a column of the block. -/
theorem logit_at (R K : ℕ) (x : FVec Ideal S1024x128 .f32) (wt : FVec Ideal S128x1 .f32) (s : FVec Ideal S1024x1 .f32) (r k : Fin 1024)
    (hs : s (ix2 r 0) = ((N.own R : ℝ) : EReal))
    (hwt : ∀ e : Fin 128, wt (ix2 e 0) = ((∑ f, N.w e f * N.q f : ℝ) : EReal))
    (hx : ∀ (k : Fin 1024) (e : Fin 128), x (ix2 k e) = ((N.x (K + k.val) e : ℝ) : EReal))
    (hc : ((N.c : ℝ) : EReal) = Gat.slope) :
    k0_pay13 (F := Ideal) x wt s (ix2 r k) = ((N.score R (K + k.val) : ℝ) : EReal) := by
  have hn : (∑ e : Fin 128, x (ix2 k e) * wt (ix2 e 0)) = ((N.nbr (K + k.val) : ℝ) : EReal) := by
    unfold Net.nbr
    rw [Gat.coe_sum]
    exact Finset.sum_congr rfl fun e _ => by rw [hx, hwt, EReal.coe_mul]
  have hc' : slope = ((N.c : ℝ) : EReal) := hc.symm
  rw [pay13_at, hn, hs, hc', ← EReal.coe_add, ← EReal.coe_mul, ← Gat.coe_max]
  rfl

/-- One more block of columns. -/
theorem known_step (i : grid0.Coords) (x : FVec Ideal S1024x128 .f32) (g : FVec Ideal S1024x1024 .f32) (S : Scr Ideal) (K : ℕ)
    (hS : Known N (i 0).val K S)
    (hx : ∀ (k : Fin 1024) (e : Fin 128), x (ix2 k e) = ((N.x (K + k.val) e : ℝ) : EReal))
    (hA : ∀ r k : Fin 1024, 1024 * (i 0).val + r.val < 10000 →
      adj (F := Ideal) i g (ix2 r k) = ((N.g (1024 * (i 0).val + r.val) (K + k.val) : ℝ) : EReal))
    (hc : ((N.c : ℝ) : EReal) = Gat.slope) :
    Known N (i 0).val (K + 1024) (stepS i x g S) where
  wt := hS.wt
  row r hr := by
    obtain ⟨hs, M, hM, hl, hacc⟩ := hS.row r hr
    have hlog : ∀ k : Fin 1024, k0_pay13 (F := Ideal) x S.wt S.s (ix2 r k)
        = ((N.score (1024 * (i 0).val + r.val) (K + k.val) : ℝ) : EReal) := fun k =>
      logit_at N _ K x S.wt S.s r k hs hS.wt hx hc
    obtain ⟨M', hM'⟩ := Gat.fold_max_real (Finset.univ : Finset (Fin 1024)) M
      (fun k => N.score (1024 * (i 0).val + r.val) (K + k.val))
    have h14 : k0_pay14 (F := Ideal) x S.wt S.s S.mx (ix2 r 0) = (M' : EReal) := by
      rw [pay14_at, hM, ← hM']
      simp only [hlog]
    have hsc : Ideal.exp (S.mx (ix2 r 0) - k0_pay14 (F := Ideal) x S.wt S.s S.mx (ix2 r 0)) = ((Real.exp (M - M') : ℝ) : EReal) := by
      rw [h14, hM, ← EReal.coe_sub, Ideal.exp_coe]
    have h17 : ∀ k : Fin 1024, k0_pay17 (F := Ideal) x S.wt S.s S.mx (adj (F := Ideal) i g) (ix2 r k)
        = ((Real.exp (N.score (1024 * (i 0).val + r.val) (K + k.val) - M') * N.g (1024 * (i 0).val + r.val) (K + k.val) : ℝ) : EReal) := fun k => by
      rw [pay17_at, hlog, h14, ← EReal.coe_sub, Ideal.exp_coe, hA r k hr, EReal.coe_mul]
    refine ⟨hs, M', ?_, ?_, fun d => ?_⟩
    · exact (congrFun (pay3_eq _) _).trans h14
    · refine (pay1_at _ _ r).trans ?_
      rw [pay19_at, hsc, hl, N.mass_step _ M M' K 1024, EReal.coe_add, EReal.coe_mul, Gat.coe_sum]
      exact congrArg _ (Finset.sum_congr rfl fun k _ => h17 k)
    · refine (pay2_at _ _ _ _ r d).trans ?_
      rw [pay18_at, hsc, hacc, N.pull_step _ M M' K 1024, EReal.coe_add, EReal.coe_mul, Gat.coe_sum]
      refine congrArg _ (Finset.sum_congr rfl fun k _ => ?_)
      rw [h17 k, pay12_eq, hx k d, ← EReal.coe_mul]

/-- The rows' output once all columns are in. -/
theorem known_finish (i K : ℕ) (S : Scr Ideal) (hS : Known N i K S) (hK : 10000 ≤ K) (w : FVec Ideal S128x128 .f32)
    (b : FVec Ideal S1x128 .f32) (hw : ∀ e f : Fin 128, w (ix2 e f) = ((N.w e f : ℝ) : EReal))
    (hg : ∀ r k, 0 ≤ N.g r k) (hpast : ∀ r k, 10000 ≤ k → N.g r k = 0) (hself : ∀ r, r < 10000 → N.g r r = 1)
    (r : Fin 1024) (hr : 1024 * i + r.val < 10000) (d : Fin 128) :
    k0_pay4 (F := Ideal) S.acc S.l w b (ix2 r d) = ((N.att (1024 * i + r.val) d : ℝ) : EReal) + b (ix2 0 d) := by
  obtain ⟨hs, M, hM, hl, hacc⟩ := hS.row r hr
  have hpos := N.mass_pos (1024 * i + r.val) M K (hg _) (by omega) (hself _ hr)
  rw [pay4_at, ← N.finish (1024 * i + r.val) M K hK (hpast _) d, Gat.coe_sum]
  refine congrArg (· + b (ix2 0 d)) (Finset.sum_congr rfl fun e _ => ?_)
  rw [hl, hacc, hw, Ideal.div_coe hpos.ne', ← EReal.coe_mul, ← EReal.coe_mul]

/-! ## Over the argument arrays -/

variable (m : (ℓ : Loc nD τ sig) → Buf (Elt Ideal) ℓ)

/-- The argument arrays on core `c`, as functions to the extended reals. -/
abbrev argX (c : Dev nD) : S10000x128.Idx → EReal := m ((c.tc : Thread nD τ).loc main_arg0)
abbrev argA (c : Dev nD) : S10000x10000.Idx → EReal := m ((c.tc : Thread nD τ).loc main_arg1)
abbrev argW (c : Dev nD) : S128x1x128.Idx → EReal := m ((c.tc : Thread nD τ).loc main_arg2)
abbrev argP (c : Dev nD) : S128x1x1.Idx → EReal := m ((c.tc : Thread nD τ).loc main_arg3)
abbrev argQ (c : Dev nD) : S128x1x1.Idx → EReal := m ((c.tc : Thread nD τ).loc main_arg4)
abbrev argB (c : Dev nD) : S128.Idx → EReal := m ((c.tc : Thread nD τ).loc main_arg5)

/-- The layer of the arrays on core `c`. -/
def net (c : Dev nD) : Net := Gat.netOf (argX m c) (argA m c) (argW m c) (argP m c) (argQ m c)

/-- What the precondition says of the arrays. -/
structure Fit : Prop where
  a : ∀ (c : Dev nD) (i : S10000x10000.Idx), argA m c i = 0 ∨ argA m c i = 1
  x : ∀ (c : Dev nD) (i : S10000x128.Idx), (((argX m c i).toReal : ℝ) : EReal) = argX m c i
  w : ∀ (c : Dev nD) (i : S128x1x128.Idx), (((argW m c i).toReal : ℝ) : EReal) = argW m c i
  p : ∀ (c : Dev nD) (i : S128x1x1.Idx), (((argP m c i).toReal : ℝ) : EReal) = argP m c i
  q : ∀ (c : Dev nD) (i : S128x1x1.Idx), (((argQ m c i).toReal : ℝ) : EReal) = argQ m c i

variable {m} (hm : Fit m)
include hm

theorem padX_real (c : Dev nD) (n : ℕ) (e : Fin 128) : padX m c n e = (((net m c).x n e : ℝ) : EReal) := by
  show padX m c n e = ((dite _ _ _ : ℝ) : EReal)
  unfold padX
  split
  · exact (hm.x c _).symm
  · exact EReal.coe_zero.symm

theorem wblk_real (c : Dev nD) (t : Fin cfg0.N) (e f : Fin 128) : wblk m c t (ix2 e f) = (((net m c).w e f : ℝ) : EReal) :=
  (wblk_at m c t e f).trans (hm.w c _).symm

theorem sblk_real (c : Dev nD) (t : Fin cfg0.N) (f : Fin 128) : sblk m c t (ix2 f 0) = (((net m c).p f : ℝ) : EReal) :=
  (sblk_at m c t f).trans (hm.p c _).symm

theorem nblk_real (c : Dev nD) (t : Fin cfg0.N) (f : Fin 128) : nblk m c t (ix2 f 0) = (((net m c).q f : ℝ) : EReal) :=
  (nblk_at m c t f).trans (hm.q c _).symm

/-- The adjacency block that the point multiplies by, in a row inside the array: the tail zeroed, the self loops set. -/
theorem adj_real (c : Dev nD) (t : Fin cfg0.N) (d : Vec Ideal S1024x1024 .f32) (r k : Fin 1024)
    (hr : 1024 * (t.val / 10) + r.val < 10000) :
    adj (cfg0.grid.coords t) (gblk m c t d) (ix2 r k)
      = (((net m c).g (1024 * (t.val / 10) + r.val) (1024 * (t.val % 10) + k.val) : ℝ) : EReal) := by
  have c0 := coords_0 t
  have c1 := coords_1 t
  have ht := point_lt t
  have hk := k.isLt
  have hv : (if ((cfg0.grid.coords t) 1).val = 9 then k0_pay15 (F := Ideal) (cfg0.grid.coords t) (gblk m c t d) else gblk m c t d) (ix2 r k)
      = if hC : 1024 * (t.val % 10) + k.val < 10000 then argA m c (ix2 ⟨_, hr⟩ ⟨_, hC⟩) else 0 := by
    split
    · rw [pay15_at, c1]
      split
      · next hC => exact gblk_at m c t d r k hr hC
      · rfl
    · next h9 =>
      have hC : 1024 * (t.val % 10) + k.val < 10000 := by omega
      rw [dif_pos hC]
      exact gblk_at m c t d r k hr hC
  unfold adj
  dsimp only
  generalize (if ((cfg0.grid.coords t) 1).val = 9 then k0_pay15 (F := Ideal) (cfg0.grid.coords t) (gblk m c t d) else gblk m c t d) = v at hv ⊢
  by_cases hC : 1024 * (t.val % 10) + k.val < 10000
  · rw [dif_pos hC] at hv
    by_cases hd : ((cfg0.grid.coords t) 0).val = ((cfg0.grid.coords t) 1).val
    · rw [if_pos hd, pay16_at, hv, c0, c1]
      by_cases he : 1024 * (t.val / 10) + r.val = 1024 * (t.val % 10) + k.val
      · rw [if_pos he]
        have h1 : (net m c).g (1024 * (t.val / 10) + r.val) (1024 * (t.val % 10) + k.val) = 1 :=
          (congrArg _ he.symm).trans (Gat.netOf_g_self _ _ _ _ _ _ hr)
        rw [h1, EReal.coe_one]
        refine max_eq_right ?_
        rcases hm.a c (ix2 ⟨_, hr⟩ ⟨_, hC⟩) with h | h
        · rw [h]; exact zero_le_one
        · rw [h]
      · rw [if_neg he]
        have h1 := Gat.netOf_g_off (argX m c) (argA m c) (argW m c) (argP m c) (argQ m c) _ _ hr hC he
        have hb := Gat.toReal_binary _ (hm.a c (ix2 ⟨_, hr⟩ ⟨_, hC⟩))
        refine Eq.trans ?_ (hb.1.symm.trans (congrArg _ h1.symm))
        refine max_eq_left ?_
        rcases hm.a c (ix2 ⟨_, hr⟩ ⟨_, hC⟩) with h | h
        · rw [h]
        · rw [h]; exact zero_le_one
    · rw [if_neg hd, hv]
      have he : 1024 * (t.val / 10) + r.val ≠ 1024 * (t.val % 10) + k.val := by
        have := r.isLt; omega
      have h1 := Gat.netOf_g_off (argX m c) (argA m c) (argW m c) (argP m c) (argQ m c) _ _ hr hC he
      exact (Gat.toReal_binary _ (hm.a c (ix2 ⟨_, hr⟩ ⟨_, hC⟩))).1.symm.trans (congrArg _ h1.symm)
  · rw [dif_neg hC] at hv
    have h0 : (net m c).g (1024 * (t.val / 10) + r.val) (1024 * (t.val % 10) + k.val) = 0 :=
      Gat.netOf_g_past _ _ _ _ _ _ _ (by omega)
    rw [h0, EReal.coe_zero]
    split
    · rw [pay16_at, hv, c0, c1, if_neg (by omega), max_self]
    · exact hv

/-- What is known of the scratch before point `n`. -/
def Inv (m : (ℓ : Loc nD τ sig) → Buf (Elt Ideal) ℓ) (c : Dev nD) (n : ℕ) (S : Scr Ideal) : Prop :=
  Known (net m c) ((n - 1) / 10) (1024 * ((n - 1) % 10 + 1)) S

theorem keeps : Keeps m (Inv m) := by
  intro c t d S h
  have hstart : Known (net m c) (t.val / 10) (1024 * (t.val % 10))
      (startS (cfg0.grid.coords t) (xrow m c t) (wblk m c t) (sblk m c t) (nblk m c t) S) := by
    unfold startS
    by_cases h0 : t.val % 10 = 0
    · rw [if_pos ((coords_1 t).trans h0), h0]
      exact known_init _ _ _ _ _ _ (fun r e => (xrow_at m c t r e).trans (padX_real hm c _ e)) (wblk_real hm c t) (sblk_real hm c t)
        (nblk_real hm c t)
    · rw [if_neg (fun h1 => h0 ((coords_1 t).symm.trans h1))]
      have hk : Known (net m c) ((t.val - 1) / 10) (1024 * ((t.val - 1) % 10 + 1)) S := h.resolve_left h0
      rwa [show (t.val - 1) / 10 = t.val / 10 by omega, show (t.val - 1) % 10 + 1 = t.val % 10 by omega] at hk
  show Known (net m c) ((t.val + 1 - 1) / 10) (1024 * ((t.val + 1 - 1) % 10 + 1)) _
  have hstep := known_step (net m c) (cfg0.grid.coords t) (xcol m c t) (gblk m c t d) _ (1024 * (t.val % 10))
    (by rw [coords_0 t]; exact hstart) (fun k e => (xcol_at m c t k e).trans (padX_real hm c _ e))
    (by rw [coords_0 t]; exact fun r k hr => adj_real hm c t d r k hr) Gat.slope_real
  rw [coords_0 t] at hstep
  rw [Nat.add_sub_cancel, Nat.mul_add, Nat.mul_one]
  exact hstep

end Cert.KernelIdeal.Hand

end
-- ==== Proof.Value.lean ====
/-
  The kernel's result array after the run: every row block is finished and written back in the last column of blocks, and the
  written parts cover the array.
-/
module

public import proofs.«01_k».proof.Proof.Step

@[expose] public section

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (RDat)
open Cert.Gat (Net)

variable (m : (ℓ : Loc nD τ sig) → Buf (Elt Ideal) ℓ) (ρ : Dev nD → PrngReg)

/-- The result: the layer's output and the bias. -/
def out (c : Dev nD) : S10000x128.Idx → EReal := fun i =>
  (((net m c).att (i 0).val (i 1) : ℝ) : EReal) + argB m c (ix1 (i 1))

theorem index_7 : ∀ t : Fin cfg0.N, win0_7.index t (0 : Fin 2) = t.val / 10 ∧ win0_7.index t (1 : Fin 2) = 0 :=
  (by decide +kernel : ∀ t : Fin grid0.N, _)

/-- How much of the result's block lies inside the array. -/
theorem xsize_7 : ∀ t : Fin cfg0.N, win0_7.xsize (grid0.coords t) (0 : Fin 2) = min 1024 (10000 - 1024 * (t.val / 10))
    ∧ win0_7.xsize (grid0.coords t) (1 : Fin 2) = 128 :=
  (by decide +kernel : ∀ t : Fin grid0.N, _)

/-- An index of the written part of the result's block, in the array. -/
theorem emb_7 (t : Fin cfg0.N) (y : (win0_7.xblock (grid0.coords t)).Idx) :
    ((((cfg0.win 7).blk t).view.emb y : S10000x128.Idx) 0).val = 1024 * (t.val / 10) + (y (0 : Fin 2)).val
      ∧ ((((cfg0.win 7).blk t).view.emb y : S10000x128.Idx) 1).val = (y (1 : Fin 2)).val := by
  obtain ⟨e0, e1⟩ := index_7 t
  constructor
  · show win0_7.index t (0 : Fin 2) * 1024 + 1 * (y (0 : Fin 2)).val = _; omega
  · show win0_7.index t (1 : Fin 2) * 128 + 1 * (y (1 : Fin 2)).val = _; omega

/-- The written parts cover the array. -/
theorem covered (i : S10000x128.Idx) : ∃ t : Fin cfg0.N, (cfg0.win 7).flush t = true ∧ i ∈ ((cfg0.win 7).blk t).view.set := by
  have h0 : (i 0).val < 10000 := (i 0).isLt
  have h1 : (i 1).val < 128 := (i 1).isLt
  have hlt : 10 * ((i 0).val / 1024) + 9 < 100 := by omega
  let t : Fin cfg0.N := ⟨10 * ((i 0).val / 1024) + 9, hlt⟩
  have htv : t.val = 10 * ((i 0).val / 1024) + 9 := rfl
  obtain ⟨x0, x1⟩ := xsize_7 t
  have hy : ∀ a : Fin 2, ((ix2 (⟨(i 0).val % 1024, by omega⟩ : Fin 1024) (⟨(i 1).val, h1⟩ : Fin 128) : S1024x128.Idx) a).val
      < win0_7.xsize (grid0.coords t) a := fun a => by
    match a with
    | ⟨0, _⟩ => show (i 0).val % 1024 < win0_7.xsize (grid0.coords t) (0 : Fin 2); omega
    | ⟨1, _⟩ => show (i 1).val < win0_7.xsize (grid0.coords t) (1 : Fin 2); omega
  refine ⟨t, (flush0_7 t).mpr (by omega), ?_⟩
  have hmem := ((cfg0.win 7).blk t).view.emb_mem_set (fun a => ⟨_, hy a⟩ : (win0_7.xblock (grid0.coords t)).Idx)
  obtain ⟨v0, v1⟩ := emb_7 t (fun a => ⟨_, hy a⟩)
  have he : (((cfg0.win 7).blk t).view.emb (fun a => ⟨_, hy a⟩ : (win0_7.xblock (grid0.coords t)).Idx) : S10000x128.Idx) = i := by
    refine funext fun a => Fin.ext ?_
    match a with
    | ⟨0, _⟩ =>
      refine v0.trans ?_
      show 1024 * (t.val / 10) + (i 0).val % 1024 = (i 0).val
      omega
    | ⟨1, _⟩ => exact v1
  exact he ▸ hmem

variable {m}

/-- What the last column of blocks writes back is its part of the result. -/
theorem flushed_eq (hm : Fit m) (c : Dev nD)
    (after : (w' : Fin cfg0.W) → Fin cfg0.N → (cfg0.win w').block.Idx → Elt Ideal (cfg0.win w').elt)
    (h : ∀ u : Fin cfg0.N, (cfg0.win 7).flush u = true → (rdat m (Inv m) c).Leaves 7 u (after 7 u))
    (t : Fin cfg0.N) (ht : (cfg0.win 7).flush t = true) :
    ((rdat m (Inv m) c).withAfter after).flushed 7 t = ((cfg0.win 7).blk t).view.read (Elt Ideal) (out m c) := by
  have h9 := (flush0_7 t).mp ht
  obtain ⟨Y, -, hY⟩ := h t ht
  obtain ⟨S, hS, hX⟩ := hY h9
  have hK : Known (net m c) (t.val / 10) 10240 S := by
    have hk : Known (net m c) ((t.val + 1 - 1) / 10) (1024 * ((t.val + 1 - 1) % 10 + 1)) S := hS
    rwa [Nat.add_sub_cancel, h9] at hk
  obtain ⟨x0, x1⟩ := xsize_7 t
  funext y
  have y0 : (y (0 : Fin 2)).val < win0_7.xsize (grid0.coords t) (0 : Fin 2) := (y (0 : Fin 2)).isLt
  have y1 : (y (1 : Fin 2)).val < win0_7.xsize (grid0.coords t) (1 : Fin 2) := (y (1 : Fin 2)).isLt
  have hr : 1024 * (t.val / 10) + (y (0 : Fin 2)).val < 10000 := by omega
  let r : Fin 1024 := ⟨(y (0 : Fin 2)).val, by omega⟩
  let d : Fin 128 := ⟨(y (1 : Fin 2)).val, by omega⟩
  have hl : ((rdat m (Inv m) c).withAfter after).flushed 7 t y = k0_pay4 (F := Ideal) S.acc S.l (wblk m c t) (bblk m c t) (ix2 r d) := by
    show after 7 t _ = _
    rw [hX]
    refine congrArg _ (funext fun a => ?_)
    match a with
    | ⟨0, _⟩ => rfl
    | ⟨1, _⟩ => rfl
  rw [hl, known_finish (net m c) _ _ S hK (by omega) _ _ (wblk_real hm c t) (Gat.netOf_g_nonneg _ _ _ _ _ (hm.a c))
    (Gat.netOf_g_past _ _ _ _ _) (Gat.netOf_g_self _ _ _ _ _) r hr d, bblk_at m c t d]
  obtain ⟨v0, v1⟩ := emb_7 t y
  show _ = out m c (((cfg0.win 7).blk t).view.emb y)
  unfold out
  have e1 : (((cfg0.win 7).blk t).view.emb y : S10000x128.Idx) 1 = d := Fin.ext v1
  rw [v0, e1]

/-- The run with the result array at its value. -/
theorem run_value (hm : Fit m) :
    θ_run defs (onTc (τ := τ) (main (F := Ideal))) (s₀ m ρ) (fun r => ∀ c : Dev nD,
      r.2.mem ((c.tc : Thread nD τ).loc main_v0) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  haveI : ∀ e, Nonempty (Elt Ideal e) := fun e => inferInstance
  refine (θ_run defs _ _).mono (fun r h c => ⟨?_, args_of m h.1 c⟩) (run_main m ρ (keeps hm))
  obtain ⟨after, hL, hA⟩ := h.1.exists_exact c
  refine (hA 7).trans ?_
  exact ((rdat m (Inv m) c).withAfter after).arrAt_eq_of_cover 7 (out m c) (flushed_eq hm c after fun u hu => hL 7 u hu) covered

end Cert.KernelIdeal.Hand

end
-- ==== Proof.Pre.lean ====
/-
  What the precondition says: the adjacency matrix holds zeros and ones, and the features, the weights and the attention vectors
  are real numbers.
-/
module

public import proofs.«01_k».proof.Defs
public import Idealize.ShloMosaic.Lib.ReduceAll
public import Idealize.ShloMosaic.Lib.ValueIdx
public import Idealize.ShloMosaic.Lib.IdealHost
public import Idealize.ShloMosaic.Lib.Pipeline.Value

@[expose] public section

noncomputable section

namespace Cert.Pre_binary_and_finite.Hand

open Cert.Pre_binary_and_finite Idealize.ShloMosaic

/-- The shapes' side conditions of the predicate. -/
instance facts : Cert.Pre_binary_and_finite.Facts where
  bcast_S_S10000x10000 := by decide
  reducesTo_S10000x10000_S_d0_1 := by decide
  h_S_ := by decide
  bcast_S_S10000x128 := by decide
  reducesTo_S10000x128_S_d0_1 := by decide
  bcast_S_S128x1x128 := by decide
  reducesTo_S128x1x128_S_d0_1_2 := by decide
  bcast_S_S128x1x1 := by decide
  reducesTo_S128x1x1_S_d0_1_2 := by decide

open Facts

instance : Subsingleton S_.Idx := ⟨fun a b => funext fun i => i.elim0⟩

/-- The word of positive infinity. -/
theorem inf_word : Ideal.ofBits .f32 0x7F800000#32 = ⊤ := by simp [Ideal.ofBits, Ideal.ieee]

/-- An extended real whose absolute value is below infinity is real. -/
theorem real_of_abs {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) : ((x i).toReal : EReal) = x i := by
  have hb : broadcastInDim s ![] h (constant (F := Ideal) S_ .f32 0x7F800000#32) i = (⊤ : EReal) :=
    (broadcastInDim_apply _ h _ i (fun a => a.elim0) (fun a => a.elim0)).trans inf_word
  have e' : Ideal.cmp .olt (max (x i) (-(x i))) (broadcastInDim s ![] h (constant (F := Ideal) S_ .f32 0x7F800000#32) i) = 1#1 := e
  rw [hb] at e'
  have hlt : max (x i) (-(x i)) < (⊤ : EReal) := by
    by_contra hn
    simp [Ideal.cmp, hn] at e'
  refine EReal.coe_toReal (fun ht => ?_) (fun hb => ?_)
  · rw [ht] at hlt; simp at hlt
  · rw [hb] at hlt; simp at hlt

/-- A comparison with one word or with another that came out 1. -/
theorem zero_or_one (x : FVec Ideal S10000x10000 .f32) (i : S10000x10000.Idx)
    (e : ori (cmpf .oeq x (broadcastInDim S10000x10000 ![] bcast_S_S10000x10000 (constant S_ .f32 0x00000000#32)))
      (cmpf .oeq x (broadcastInDim S10000x10000 ![] bcast_S_S10000x10000 (constant S_ .f32 0x3F800000#32))) i = 1#1) :
    x i = 0 ∨ x i = 1 := by
  have h0 : broadcastInDim S10000x10000 ![] bcast_S_S10000x10000 (constant (F := Ideal) S_ .f32 0x00000000#32) i = (0 : EReal) :=
    (broadcastInDim_apply _ bcast_S_S10000x10000 _ i (fun a => a.elim0) (fun a => a.elim0)).trans Ideal.ofBits_zero_f32
  have h1 : broadcastInDim S10000x10000 ![] bcast_S_S10000x10000 (constant (F := Ideal) S_ .f32 0x3F800000#32) i = (1 : EReal) :=
    (broadcastInDim_apply _ bcast_S_S10000x10000 _ i (fun a => a.elim0) (fun a => a.elim0)).trans Ideal.ofBits_one_f32
  have e' : (Ideal.cmp .oeq (x i) (broadcastInDim S10000x10000 ![] bcast_S_S10000x10000 (constant (F := Ideal) S_ .f32 0x00000000#32) i))
      ||| (Ideal.cmp .oeq (x i) (broadcastInDim S10000x10000 ![] bcast_S_S10000x10000 (constant (F := Ideal) S_ .f32 0x3F800000#32) i)) = 1#1 := e
  rw [h0, h1] at e'
  by_contra hn
  rw [not_or] at hn
  simp [Ideal.cmp, hn.1, hn.2] at e'

theorem and_one {a b : IVec S_ 1} (h : andi a b = fun _ => 1#1) : (a = fun _ => 1#1) ∧ (b = fun _ => 1#1) :=
  ⟨funext fun i => (IntOp.andi_eq_one.1 (congrFun h i)).1, funext fun i => (IntOp.andi_eq_one.1 (congrFun h i)).2⟩

/-- The precondition, read back: the adjacency matrix's entries, and the four real arrays. -/
theorem of_fn (x : FVec Ideal S10000x128 .f32) (a : FVec Ideal S10000x10000 .f32) (w : FVec Ideal S128x1x128 .f32)
    (p q : FVec Ideal S128x1x1 .f32) (b : FVec Ideal S128 .f32) (h : fn (F := Ideal) x a w p q b = fun _ => 1#1) :
    (∀ i, a i = 0 ∨ a i = 1) ∧ (∀ i, ((x i).toReal : EReal) = x i) ∧ (∀ i, ((w i).toReal : EReal) = w i)
      ∧ (∀ i, ((p i).toReal : EReal) = p i) ∧ (∀ i, ((q i).toReal : EReal) = q i) := by
  unfold fn fn_part1 at h
  obtain ⟨h5, h⟩ := and_one h
  obtain ⟨h14, h23⟩ := and_one h
  obtain ⟨h9, h13⟩ := and_one h14
  obtain ⟨h18, h22⟩ := and_one h23
  have z : S_.Idx := fun a => a.elim0
  exact ⟨fun i => zero_or_one a i (Host.reduce_andi_all _ _ _ _ z (congrFun h5 z) i),
    fun i => real_of_abs x _ i (Host.reduce_andi_all _ _ _ _ z (congrFun h9 z) i),
    fun i => real_of_abs w _ i (Host.reduce_andi_all _ _ _ _ z (congrFun h13 z) i),
    fun i => real_of_abs p _ i (Host.reduce_andi_all _ _ _ _ z (congrFun h18 z) i),
    fun i => real_of_abs q _ i (Host.reduce_andi_all _ _ _ _ z (congrFun h22 z) i)⟩

end Cert.Pre_binary_and_finite.Hand

end
-- ==== Proof.RefRun.lean ====
/-
  The reference's run, with its result at the later operations' term of the arguments and of what its region leaves.
  This is the text of the generated Run module; only the proof of `fin_main_v35` is another one.
-/
module

public import proofs.«01_k».proof.Proof.Gen.ReferenceIdeal
public import proofs.«01_k».proof.Proof.Gen.ReferenceIdeal.Frame
public import Idealize.ShloMosaic.Lib.StableHlo.Run
public import Idealize.ShloMosaic.Lib.Pipeline.FrameSuffix

@[expose] public section

noncomputable section

namespace Cert.ReferenceIdeal.Left

open Cert.ReferenceIdeal Cert.ReferenceIdeal.Gen Idealize.ShloMosaic Idealize.ShloMosaic.TcCoe Idealize.SL.Sem Idealize.ShloMosaic.StableHlo

variable {F : FTy → Type} [FloatOps F] [Named F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v6` (window 1's): not opened here. -/
def reg_main_v6 (c : Dev nD) : Buf (Elt F) ((c.tc : Thread nD τ).loc main_v6) := (Gen.dats m 0 c).arrAt 1 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at argument `main_arg5`: as launched. -/
theorem exit_main_arg5 (c : Dev nD) : exitV m c (Proc.devRef .tc main_arg5) = m ((c.tc : Thread nD τ).loc main_arg5) :=
  (Pipeline.withArrays_of_ne _ c (Gen.V0 m c) _ main_arg5 (by exact (by decide : ∀ w, Pipeline.arrRef spec0 w ≠ main_arg5))).trans (Gen.V_main_arg5 m c)
/-- The exit contents at the region's result array `main_v6`. -/
theorem exit_main_v6 (c : Dev nD) : exitV m c (Proc.devRef .tc main_v6) = reg_main_v6 m c :=
  Pipeline.withArrays_arr spec0 Gen.launch0.win.arr_inj c (Gen.V0 m c) _ 1

/-- `main_v35`'s composed term of the arguments and the region's results (named: it is long). -/
def res_main_v35 (c : Dev nD) : Buf (Elt F) ((c.tc : Thread nD τ).loc main_v35) :=
  addf (shapeCast _ (transpose S10000x1x128 [2, 0, 1] (Host.dotGeneral dot_S10000x1x128_S10000x1x10000_S1x128x10000_0_2_2_0_1_1 none (Host.dotGeneral dot_S10000x128_S128x1x128_S10000x1x128_1_0_0_12_n_n none (m ((c.tc : Thread nD τ).loc main_arg0)) (m ((c.tc : Thread nD τ).loc main_arg2))) (Host.divf (Host.exp (subf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))))) (broadcastInDim S10000x1x10000 ![0, 2] bcast_S10000x10000_S10000x1x10000_0_2 (reg_main_v6 m c))) (broadcastInDim S10000x1x10000 ![0, 1, 2] bcast_S10000x1x1_S10000x1x10000_0_1_2 (broadcastInDim S10000x1x1 ![0, 1] bcast_S10000x1_S10000x1x1_0_1 (maximumf (broadcastInDim S10000x1 ![] bcast_S_S10000x1 (constant S_ .f32 0xFF800000#32)) (Host.reduce FloatOps.maximumf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))))) (broadcastInDim S10000x1x10000 ![0, 2] bcast_S10000x10000_S10000x1x10000_0_2 (reg_main_v6 m c))) (constant S_ .f32 0xFF800000#32) reducesTo_S10000x1x10000_S10000x1_d2 h_S_)))))) (broadcastInDim S10000x1x10000 ![0, 1, 2] bcast_S10000x1x1_S10000x1x10000_0_1_2 (broadcastInDim S10000x1x1 ![0, 1] bcast_S10000x1_S10000x1x1_0_1 (Host.reduceAdd (Host.exp (subf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))))) (broadcastInDim S10000x1x10000 ![0, 2] bcast_S10000x10000_S10000x1x10000_0_2 (reg_main_v6 m c))) (broadcastInDim S10000x1x10000 ![0, 1, 2] bcast_S10000x1x1_S10000x1x10000_0_1_2 (broadcastInDim S10000x1x1 ![0, 1] bcast_S10000x1_S10000x1x1_0_1 (maximumf (broadcastInDim S10000x1 ![] bcast_S_S10000x1 (constant S_ .f32 0xFF800000#32)) (Host.reduce FloatOps.maximumf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (m ((c.tc : Thread nD τ).loc main_arg3)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (m ((c.tc : Thread nD τ).loc main_arg4)) (Host.dotGeneral dot_S10000x128_S128x1x128_S10000x1x128_1_0_0_12_n_n none (m ((c.tc : Thread nD τ).loc main_arg0)) (m ((c.tc : Thread nD τ).loc main_arg2)))) transposes_S1x1x10000_S10000x1x1_2_0_1) transposes_S10000x1x1_S1x1x10000_2_1_0))))) (broadcastInDim S10000x1x10000 ![0, 2] bcast_S10000x10000_S10000x1x10000_0_2 (reg_main_v6 m c))) (constant S_ .f32 0xFF800000#32) reducesTo_S10000x1x10000_S10000x1_d2 h_S_)))))) (constant S_ .f32 0x00000000#32) reducesTo_S10000x1x10000_S10000x1_d2 h_S_))))) transposes_S1x128x10000_S10000x1x128_2_0_1) shapeCasts_S10000x1x128_S10000x128) (broadcastInDim S10000x128 ![0, 1] bcast_S1x128_S10000x128_0_1 (broadcastInDim S1x128 ![1] bcast_S128_S1x128_1 (m ((c.tc : Thread nD τ).loc main_arg5))))

/-- `res_main_v35` by its position among the values @main returns, 0 counting from 0: the name for hand proofs to cite, since
    a re-print renumbers `main_v35`. An abbreviation: it unfolds to the `res_main_v35` that `run` states. -/
abbrev res_out0 (c : Dev nD) : Buf (Elt F) ((c.tc : Thread nD τ).loc main_v35) := res_main_v35 m c

set_option maxHeartbeats 2000000 in
/-- The later operations from any contents `V0`, read at result `main_v35`. -/
theorem tail_main_v35 (V0 : Valuation τ sig (Elt F)) :
    after (List.flatten [Gen.hostOps1, Gen.hostOps1_1, Gen.hostOps1_2]) V0 (Proc.devRef .tc main_v35) = addf (shapeCast _ (transpose S10000x1x128 [2, 0, 1] (Host.dotGeneral dot_S10000x1x128_S10000x1x10000_S1x128x10000_0_2_2_0_1_1 none (Host.dotGeneral dot_S10000x128_S128x1x128_S10000x1x128_1_0_0_12_n_n none (V0 (Proc.devRef .tc main_arg0)) (V0 (Proc.devRef .tc main_arg2))) (Host.divf (Host.exp (subf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))))) (broadcastInDim S10000x1x10000 ![0, 2] bcast_S10000x10000_S10000x1x10000_0_2 (V0 (Proc.devRef .tc main_v6)))) (broadcastInDim S10000x1x10000 ![0, 1, 2] bcast_S10000x1x1_S10000x1x10000_0_1_2 (broadcastInDim S10000x1x1 ![0, 1] bcast_S10000x1_S10000x1x1_0_1 (maximumf (broadcastInDim S10000x1 ![] bcast_S_S10000x1 (constant S_ .f32 0xFF800000#32)) (Host.reduce FloatOps.maximumf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))))) (broadcastInDim S10000x1x10000 ![0, 2] bcast_S10000x10000_S10000x1x10000_0_2 (V0 (Proc.devRef .tc main_v6)))) (constant S_ .f32 0xFF800000#32) reducesTo_S10000x1x10000_S10000x1_d2 h_S_)))))) (broadcastInDim S10000x1x10000 ![0, 1, 2] bcast_S10000x1x1_S10000x1x10000_0_1_2 (broadcastInDim S10000x1x1 ![0, 1] bcast_S10000x1_S10000x1x1_0_1 (Host.reduceAdd (Host.exp (subf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))))) (broadcastInDim S10000x1x10000 ![0, 2] bcast_S10000x10000_S10000x1x10000_0_2 (V0 (Proc.devRef .tc main_v6)))) (broadcastInDim S10000x1x10000 ![0, 1, 2] bcast_S10000x1x1_S10000x1x10000_0_1_2 (broadcastInDim S10000x1x1 ![0, 1] bcast_S10000x1_S10000x1x1_0_1 (maximumf (broadcastInDim S10000x1 ![] bcast_S_S10000x1 (constant S_ .f32 0xFF800000#32)) (Host.reduce FloatOps.maximumf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))))) (broadcastInDim S10000x1x10000 ![0, 2] bcast_S10000x10000_S10000x1x10000_0_2 (V0 (Proc.devRef .tc main_v6)))) (constant S_ .f32 0xFF800000#32) reducesTo_S10000x1x10000_S10000x1_d2 h_S_)))))) (constant S_ .f32 0x00000000#32) reducesTo_S10000x1x10000_S10000x1_d2 h_S_))))) transposes_S1x128x10000_S10000x1x128_2_0_1) shapeCasts_S10000x1x128_S10000x128) (broadcastInDim S10000x128 ![0, 1] bcast_S1x128_S10000x128_0_1 (broadcastInDim S1x128 ![1] bcast_S128_S1x128_1 (V0 (Proc.devRef .tc main_arg5)))) := by
  simp only [Gen.hostOps1, Gen.hostOps1_1, Gen.hostOps1_2, TRef.binary, TRef.nullary, TRef.ternary, TRef.unary, TRef.toBuf, TRef.ofBuf, cast_eq, List.flatten_cons, List.flatten_nil, List.append_nil, List.cons_append, List.nil_append]
  after_results_simp <;> rfl
/-- Result `main_v35` after the later operations from the region's exit contents. -/
theorem fin_main_v35 (c : Dev nD) :
    Pipeline.afterTail₀ cfgs (Gen.dats m) 0 (Gen.V0 m) [Gen.hostOps1, Gen.hostOps1_1, Gen.hostOps1_2] c main_v35 = res_main_v35 m c := by
  unfold res_main_v35
  refine (tail_main_v35 (exitV m c)).trans ?_
  rw [exit_main_arg0, exit_main_arg2, exit_main_arg3, exit_main_arg4, exit_main_arg5, exit_main_v6]
  rfl

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v35) = res_main_v35 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).2 main_v35 (Pipeline.mem_restRefs_of main_v35 (by decide) (by decide))).trans (fin_main_v35 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c)⟩) (Gen.run_main m ρ)

end Cert.ReferenceIdeal.Left

end
-- ==== Proof.RefRead.lean ====
/-
  The reference's later operations as stages, each read at an index.
  This is the text of the generated Read module over the run of `RefRun`.
-/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F] [Named F]

-- %7 = stablehlo.dot_general %arg0, %arg2, contracting_dims = [1] x [0], precision = [DEFAULT, DEFAULT] : (tensor<10000x128xf32>, tensor<128x1x128xf32>) -> tensor<10000x1x128xf32>
def val_main_v7 (x0 : (⟨S10000x128, .f32⟩ : BufTy).Contents (Elt F)) (x2 : (⟨S128x1x128, .f32⟩ : BufTy).Contents (Elt F)) : (⟨S10000x1x128, .f32⟩ : BufTy).Contents (Elt F) :=
  Host.dotGeneral dot_S10000x128_S128x1x128_S10000x1x128_1_0_0_12_n_n none (x0) (x2)
theorem lhs_main_v7_0 (i : S10000x1x128.Idx) (q : dot_S10000x128_S128x1x128_S10000x1x128_1_0_0_12_n_n.contr.Idx) :
    (dot_S10000x128_S128x1x128_S10000x1x128_1_0_0_12_n_n.lhsIdx i q 0).val = (i 0).val := by
  unfold DotDims.lhsIdx
  rw [dif_neg (show ¬(0 : Fin S10000x128.rank) ∈ dot_S10000x128_S128x1x128_S10000x1x128_1_0_0_12_n_n.lhsBatch by decide), dif_pos (show (0 : Fin S10000x128.rank) ∈ dot_S10000x128_S128x1x128_S10000x1x128_1_0_0_12_n_n.lhsNonContracting by decide)]
  rfl
theorem lhs_main_v7_1 (i : S10000x1x128.Idx) (q : dot_S10000x128_S128x1x128_S10000x1x128_1_0_0_12_n_n.contr.Idx) :
    (dot_S10000x128_S128x1x128_S10000x1x128_1_0_0_12_n_n.lhsIdx i q 1).val = (q ⟨0, by decide⟩).val :=
  dot_S10000x128_S128x1x128_S10000x1x128_1_0_0_12_n_n.lhsIdx_val_of_single rfl i q
theorem rhs_main_v7_0 (i : S10000x1x128.Idx) (q : dot_S10000x128_S128x1x128_S10000x1x128_1_0_0_12_n_n.contr.Idx) :
    (dot_S10000x128_S128x1x128_S10000x1x128_1_0_0_12_n_n.rhsIdx i q 0).val = (q ⟨0, by decide⟩).val :=
  dot_S10000x128_S128x1x128_S10000x1x128_1_0_0_12_n_n.rhsIdx_val_of_single rfl i q
theorem rhs_main_v7_1 (i : S10000x1x128.Idx) (q : dot_S10000x128_S128x1x128_S10000x1x128_1_0_0_12_n_n.contr.Idx) :
    (dot_S10000x128_S128x1x128_S10000x1x128_1_0_0_12_n_n.rhsIdx i q 1).val = (i 1).val := by
  unfold DotDims.rhsIdx
  rw [dif_neg (show ¬(1 : Fin S128x1x128.rank) ∈ dot_S10000x128_S128x1x128_S10000x1x128_1_0_0_12_n_n.rhsBatch by decide), dif_pos (show (1 : Fin S128x1x128.rank) ∈ dot_S10000x128_S128x1x128_S10000x1x128_1_0_0_12_n_n.rhsNonContracting by decide)]
  rfl
theorem rhs_main_v7_2 (i : S10000x1x128.Idx) (q : dot_S10000x128_S128x1x128_S10000x1x128_1_0_0_12_n_n.contr.Idx) :
    (dot_S10000x128_S128x1x128_S10000x1x128_1_0_0_12_n_n.rhsIdx i q 2).val = (i 2).val := by
  unfold DotDims.rhsIdx
  rw [dif_neg (show ¬(2 : Fin S128x1x128.rank) ∈ dot_S10000x128_S128x1x128_S10000x1x128_1_0_0_12_n_n.rhsBatch by decide), dif_pos (show (2 : Fin S128x1x128.rank) ∈ dot_S10000x128_S128x1x128_S10000x1x128_1_0_0_12_n_n.rhsNonContracting by decide)]
  rfl
abbrev lidx_main_v7 (i : S10000x1x128.Idx) (k : Fin 128) : S10000x128.Idx := fun a => match a with
  | ⟨0, _⟩ => ⟨(i 0).val, (i 0).isLt⟩
  | ⟨1, _⟩ => ⟨k.val, k.isLt⟩
abbrev ridx_main_v7 (i : S10000x1x128.Idx) (k : Fin 128) : S128x1x128.Idx := fun a => match a with
  | ⟨0, _⟩ => ⟨k.val, k.isLt⟩
  | ⟨1, _⟩ => ⟨(i 1).val, (i 1).isLt⟩
  | ⟨2, _⟩ => ⟨(i 2).val, (i 2).isLt⟩
/-- Stated at `F := Ideal`, where the host's `dot_general` is this sum; at a bit-exact instance it is an opaque function of its operands. -/
theorem val_main_v7_apply (x0 : (⟨S10000x128, .f32⟩ : BufTy).Contents (Elt Ideal)) (x2 : (⟨S128x1x128, .f32⟩ : BufTy).Contents (Elt Ideal)) (i : S10000x1x128.Idx) :
    val_main_v7 (F := Ideal) x0 x2 i = ∑ k : Fin 128, x0 (lidx_main_v7 i k) * x2 (ridx_main_v7 i k) := by
  unfold val_main_v7
  simp only [Host.dotGeneral]
  rw [Ideal.dotGeneral_apply, ← Equiv.sum_comp (ValueIdx.contrEquiv1 dot_S10000x128_S128x1x128_S10000x1x128_1_0_0_12_n_n 128 rfl rfl).symm]
  refine Finset.sum_congr rfl fun k _ => ?_
  have hk := ValueIdx.contrEquiv1_symm_val dot_S10000x128_S128x1x128_S10000x1x128_1_0_0_12_n_n 128 rfl rfl k
  have el : dot_S10000x128_S128x1x128_S10000x1x128_1_0_0_12_n_n.lhsIdx i ((ValueIdx.contrEquiv1 dot_S10000x128_S128x1x128_S10000x1x128_1_0_0_12_n_n 128 rfl rfl).symm k) = lidx_main_v7 i k := funext fun a => Fin.ext (by
    match a with
    | ⟨0, _⟩ => exact lhs_main_v7_0 _ _
    | ⟨1, _⟩ => exact (lhs_main_v7_1 _ _).trans hk)
  have er : dot_S10000x128_S128x1x128_S10000x1x128_1_0_0_12_n_n.rhsIdx i ((ValueIdx.contrEquiv1 dot_S10000x128_S128x1x128_S10000x1x128_1_0_0_12_n_n 128 rfl rfl).symm k) = ridx_main_v7 i k := funext fun a => Fin.ext (by
    match a with
    | ⟨0, _⟩ => exact (rhs_main_v7_0 _ _).trans hk
    | ⟨1, _⟩ => exact rhs_main_v7_1 _ _
    | ⟨2, _⟩ => exact rhs_main_v7_2 _ _)
  rw [el, er]

-- %8 = stablehlo.dot_general %arg3, %7, batching_dims = [1] x [1], contracting_dims = [0] x [2], precision = [DEFAULT, DEFAULT] : (tensor<128x1x1xf32>, tensor<10000x1x128xf32>) -> tensor<1x1x10000xf32>
def val_main_v8 (x0 : (⟨S10000x128, .f32⟩ : BufTy).Contents (Elt F)) (x2 : (⟨S128x1x128, .f32⟩ : BufTy).Contents (Elt F)) (x3 : (⟨S128x1x1, .f32⟩ : BufTy).Contents (Elt F)) : (⟨S1x1x10000, .f32⟩ : BufTy).Contents (Elt F) :=
  Host.dotGeneral dot_S128x1x1_S10000x1x128_S1x1x10000_0_2_2_0_1_1 none (x3) (val_main_v7 (F := F) x0 x2)
theorem lhs_main_v8_0 (i : S1x1x10000.Idx) (q : dot_S128x1x1_S10000x1x128_S1x1x10000_0_2_2_0_1_1.contr.Idx) :
    (dot_S128x1x1_S10000x1x128_S1x1x10000_0_2_2_0_1_1.lhsIdx i q 0).val = (q ⟨0, by decide⟩).val :=
  dot_S128x1x1_S10000x1x128_S1x1x10000_0_2_2_0_1_1.lhsIdx_val_of_single rfl i q
theorem lhs_main_v8_1 (i : S1x1x10000.Idx) (q : dot_S128x1x1_S10000x1x128_S1x1x10000_0_2_2_0_1_1.contr.Idx) :
    (dot_S128x1x1_S10000x1x128_S1x1x10000_0_2_2_0_1_1.lhsIdx i q 1).val = (i 0).val := by
  unfold DotDims.lhsIdx
  rw [dif_pos (show (1 : Fin S128x1x1.rank) ∈ dot_S128x1x1_S10000x1x128_S1x1x10000_0_2_2_0_1_1.lhsBatch by decide)]
  rfl
theorem lhs_main_v8_2 (i : S1x1x10000.Idx) (q : dot_S128x1x1_S10000x1x128_S1x1x10000_0_2_2_0_1_1.contr.Idx) :
    (dot_S128x1x1_S10000x1x128_S1x1x10000_0_2_2_0_1_1.lhsIdx i q 2).val = (i 1).val := by
  unfold DotDims.lhsIdx
  rw [dif_neg (show ¬(2 : Fin S128x1x1.rank) ∈ dot_S128x1x1_S10000x1x128_S1x1x10000_0_2_2_0_1_1.lhsBatch by decide), dif_pos (show (2 : Fin S128x1x1.rank) ∈ dot_S128x1x1_S10000x1x128_S1x1x10000_0_2_2_0_1_1.lhsNonContracting by decide)]
  rfl
theorem rhs_main_v8_0 (i : S1x1x10000.Idx) (q : dot_S128x1x1_S10000x1x128_S1x1x10000_0_2_2_0_1_1.contr.Idx) :
    (dot_S128x1x1_S10000x1x128_S1x1x10000_0_2_2_0_1_1.rhsIdx i q 0).val = (i 2).val := by
  unfold DotDims.rhsIdx
  rw [dif_neg (show ¬(0 : Fin S10000x1x128.rank) ∈ dot_S128x1x1_S10000x1x128_S1x1x10000_0_2_2_0_1_1.rhsBatch by decide), dif_pos (show (0 : Fin S10000x1x128.rank) ∈ dot_S128x1x1_S10000x1x128_S1x1x10000_0_2_2_0_1_1.rhsNonContracting by decide)]
  rfl
theorem rhs_main_v8_1 (i : S1x1x10000.Idx) (q : dot_S128x1x1_S10000x1x128_S1x1x10000_0_2_2_0_1_1.contr.Idx) :
    (dot_S128x1x1_S10000x1x128_S1x1x10000_0_2_2_0_1_1.rhsIdx i q 1).val = (i 0).val := by
  unfold DotDims.rhsIdx
  rw [dif_pos (show (1 : Fin S10000x1x128.rank) ∈ dot_S128x1x1_S10000x1x128_S1x1x10000_0_2_2_0_1_1.rhsBatch by decide)]
  rfl
theorem rhs_main_v8_2 (i : S1x1x10000.Idx) (q : dot_S128x1x1_S10000x1x128_S1x1x10000_0_2_2_0_1_1.contr.Idx) :
    (dot_S128x1x1_S10000x1x128_S1x1x10000_0_2_2_0_1_1.rhsIdx i q 2).val = (q ⟨0, by decide⟩).val :=
  dot_S128x1x1_S10000x1x128_S1x1x10000_0_2_2_0_1_1.rhsIdx_val_of_single rfl i q
abbrev lidx_main_v8 (i : S1x1x10000.Idx) (k : Fin 128) : S128x1x1.Idx := fun a => match a with
  | ⟨0, _⟩ => ⟨k.val, k.isLt⟩
  | ⟨1, _⟩ => ⟨(i 0).val, (i 0).isLt⟩
  | ⟨2, _⟩ => ⟨(i 1).val, (i 1).isLt⟩
abbrev ridx_main_v8 (i : S1x1x10000.Idx) (k : Fin 128) : S10000x1x128.Idx := fun a => match a with
  | ⟨0, _⟩ => ⟨(i 2).val, (i 2).isLt⟩
  | ⟨1, _⟩ => ⟨(i 0).val, (i 0).isLt⟩
  | ⟨2, _⟩ => ⟨k.val, k.isLt⟩
/-- Stated at `F := Ideal`, where the host's `dot_general` is this sum; at a bit-exact instance it is an opaque function of its operands. -/
theorem val_main_v8_apply (x0 : (⟨S10000x128, .f32⟩ : BufTy).Contents (Elt Ideal)) (x2 : (⟨S128x1x128, .f32⟩ : BufTy).Contents (Elt Ideal)) (x3 : (⟨S128x1x1, .f32⟩ : BufTy).Contents (Elt Ideal)) (i : S1x1x10000.Idx) :
    val_main_v8 (F := Ideal) x0 x2 x3 i = ∑ k : Fin 128, x3 (lidx_main_v8 i k) * (val_main_v7 (F := Ideal) x0 x2) (ridx_main_v8 i k) := by
  unfold val_main_v8
  generalize val_main_v7 (F := Ideal) x0 x2 = y0
  simp only [Host.dotGeneral]
  rw [Ideal.dotGeneral_apply, ← Equiv.sum_comp (ValueIdx.contrEquiv1 dot_S128x1x1_S10000x1x128_S1x1x10000_0_2_2_0_1_1 128 rfl rfl).symm]
  refine Finset.sum_congr rfl fun k _ => ?_
  have hk := ValueIdx.contrEquiv1_symm_val dot_S128x1x1_S10000x1x128_S1x1x10000_0_2_2_0_1_1 128 rfl rfl k
  have el : dot_S128x1x1_S10000x1x128_S1x1x10000_0_2_2_0_1_1.lhsIdx i ((ValueIdx.contrEquiv1 dot_S128x1x1_S10000x1x128_S1x1x10000_0_2_2_0_1_1 128 rfl rfl).symm k) = lidx_main_v8 i k := funext fun a => Fin.ext (by
    match a with
    | ⟨0, _⟩ => exact (lhs_main_v8_0 _ _).trans hk
    | ⟨1, _⟩ => exact lhs_main_v8_1 _ _
    | ⟨2, _⟩ => exact lhs_main_v8_2 _ _)
  have er : dot_S128x1x1_S10000x1x128_S1x1x10000_0_2_2_0_1_1.rhsIdx i ((ValueIdx.contrEquiv1 dot_S128x1x1_S10000x1x128_S1x1x10000_0_2_2_0_1_1 128 rfl rfl).symm k) = ridx_main_v8 i k := funext fun a => Fin.ext (by
    match a with
    | ⟨0, _⟩ => exact rhs_main_v8_0 _ _
    | ⟨1, _⟩ => exact rhs_main_v8_1 _ _
    | ⟨2, _⟩ => exact (rhs_main_v8_2 _ _).trans hk)
  rw [el, er]

-- %9 = stablehlo.transpose %8, dims = [2, 0, 1] : (tensor<1x1x10000xf32>) -> tensor<10000x1x1xf32>
def val_main_v9 (x0 : (⟨S10000x128, .f32⟩ : BufTy).Contents (Elt F)) (x2 : (⟨S128x1x128, .f32⟩ : BufTy).Contents (Elt F)) (x3 : (⟨S128x1x1, .f32⟩ : BufTy).Contents (Elt F)) : (⟨S10000x1x1, .f32⟩ : BufTy).Contents (Elt F) :=
  transpose S10000x1x1 [2, 0, 1] (val_main_v8 (F := F) x0 x2 x3) transposes_S1x1x10000_S10000x1x1_2_0_1
abbrev idx_main_v9 (i : S10000x1x1.Idx) : S1x1x10000.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v9_apply (x0 : (⟨S10000x128, .f32⟩ : BufTy).Contents (Elt F)) (x2 : (⟨S128x1x128, .f32⟩ : BufTy).Contents (Elt F)) (x3 : (⟨S128x1x1, .f32⟩ : BufTy).Contents (Elt F)) (i : S10000x1x1.Idx) :
    val_main_v9 (F := F) x0 x2 x3 i = val_main_v8 (F := F) x0 x2 x3 (idx_main_v9 i) := by
  unfold val_main_v9
  generalize val_main_v8 (F := F) x0 x2 x3 = y
  exact transpose_apply [2, 0, 1] y transposes_S1x1x10000_S10000x1x1_2_0_1 i (idx_main_v9 i) (fun b => match b with
    | ⟨0, _⟩ => rfl
    | ⟨1, _⟩ => rfl
    | ⟨2, _⟩ => rfl)

-- %10 = stablehlo.dot_general %arg4, %7, batching_dims = [1] x [1], contracting_dims = [0] x [2], precision = [DEFAULT, DEFAULT] : (tensor<128x1x1xf32>, tensor<10000x1x128xf32>) -> tensor<1x1x10000xf32>
def val_main_v10 (x0 : (⟨S10000x128, .f32⟩ : BufTy).Contents (Elt F)) (x2 : (⟨S128x1x128, .f32⟩ : BufTy).Contents (Elt F)) (x4 : (⟨S128x1x1, .f32⟩ : BufTy).Contents (Elt F)) : (⟨S1x1x10000, .f32⟩ : BufTy).Contents (Elt F) :=
  Host.dotGeneral dot_S128x1x1_S10000x1x128_S1x1x10000_0_2_2_0_1_1 none (x4) (val_main_v7 (F := F) x0 x2)
theorem lhs_main_v10_0 (i : S1x1x10000.Idx) (q : dot_S128x1x1_S10000x1x128_S1x1x10000_0_2_2_0_1_1.contr.Idx) :
    (dot_S128x1x1_S10000x1x128_S1x1x10000_0_2_2_0_1_1.lhsIdx i q 0).val = (q ⟨0, by decide⟩).val :=
  dot_S128x1x1_S10000x1x128_S1x1x10000_0_2_2_0_1_1.lhsIdx_val_of_single rfl i q
theorem lhs_main_v10_1 (i : S1x1x10000.Idx) (q : dot_S128x1x1_S10000x1x128_S1x1x10000_0_2_2_0_1_1.contr.Idx) :
    (dot_S128x1x1_S10000x1x128_S1x1x10000_0_2_2_0_1_1.lhsIdx i q 1).val = (i 0).val := by
  unfold DotDims.lhsIdx
  rw [dif_pos (show (1 : Fin S128x1x1.rank) ∈ dot_S128x1x1_S10000x1x128_S1x1x10000_0_2_2_0_1_1.lhsBatch by decide)]
  rfl
theorem lhs_main_v10_2 (i : S1x1x10000.Idx) (q : dot_S128x1x1_S10000x1x128_S1x1x10000_0_2_2_0_1_1.contr.Idx) :
    (dot_S128x1x1_S10000x1x128_S1x1x10000_0_2_2_0_1_1.lhsIdx i q 2).val = (i 1).val := by
  unfold DotDims.lhsIdx
  rw [dif_neg (show ¬(2 : Fin S128x1x1.rank) ∈ dot_S128x1x1_S10000x1x128_S1x1x10000_0_2_2_0_1_1.lhsBatch by decide), dif_pos (show (2 : Fin S128x1x1.rank) ∈ dot_S128x1x1_S10000x1x128_S1x1x10000_0_2_2_0_1_1.lhsNonContracting by decide)]
  rfl
theorem rhs_main_v10_0 (i : S1x1x10000.Idx) (q : dot_S128x1x1_S10000x1x128_S1x1x10000_0_2_2_0_1_1.contr.Idx) :
    (dot_S128x1x1_S10000x1x128_S1x1x10000_0_2_2_0_1_1.rhsIdx i q 0).val = (i 2).val := by
  unfold DotDims.rhsIdx
  rw [dif_neg (show ¬(0 : Fin S10000x1x128.rank) ∈ dot_S128x1x1_S10000x1x128_S1x1x10000_0_2_2_0_1_1.rhsBatch by decide), dif_pos (show (0 : Fin S10000x1x128.rank) ∈ dot_S128x1x1_S10000x1x128_S1x1x10000_0_2_2_0_1_1.rhsNonContracting by decide)]
  rfl
theorem rhs_main_v10_1 (i : S1x1x10000.Idx) (q : dot_S128x1x1_S10000x1x128_S1x1x10000_0_2_2_0_1_1.contr.Idx) :
    (dot_S128x1x1_S10000x1x128_S1x1x10000_0_2_2_0_1_1.rhsIdx i q 1).val = (i 0).val := by
  unfold DotDims.rhsIdx
  rw [dif_pos (show (1 : Fin S10000x1x128.rank) ∈ dot_S128x1x1_S10000x1x128_S1x1x10000_0_2_2_0_1_1.rhsBatch by decide)]
  rfl
theorem rhs_main_v10_2 (i : S1x1x10000.Idx) (q : dot_S128x1x1_S10000x1x128_S1x1x10000_0_2_2_0_1_1.contr.Idx) :
    (dot_S128x1x1_S10000x1x128_S1x1x10000_0_2_2_0_1_1.rhsIdx i q 2).val = (q ⟨0, by decide⟩).val :=
  dot_S128x1x1_S10000x1x128_S1x1x10000_0_2_2_0_1_1.rhsIdx_val_of_single rfl i q
abbrev lidx_main_v10 (i : S1x1x10000.Idx) (k : Fin 128) : S128x1x1.Idx := fun a => match a with
  | ⟨0, _⟩ => ⟨k.val, k.isLt⟩
  | ⟨1, _⟩ => ⟨(i 0).val, (i 0).isLt⟩
  | ⟨2, _⟩ => ⟨(i 1).val, (i 1).isLt⟩
abbrev ridx_main_v10 (i : S1x1x10000.Idx) (k : Fin 128) : S10000x1x128.Idx := fun a => match a with
  | ⟨0, _⟩ => ⟨(i 2).val, (i 2).isLt⟩
  | ⟨1, _⟩ => ⟨(i 0).val, (i 0).isLt⟩
  | ⟨2, _⟩ => ⟨k.val, k.isLt⟩
/-- Stated at `F := Ideal`, where the host's `dot_general` is this sum; at a bit-exact instance it is an opaque function of its operands. -/
theorem val_main_v10_apply (x0 : (⟨S10000x128, .f32⟩ : BufTy).Contents (Elt Ideal)) (x2 : (⟨S128x1x128, .f32⟩ : BufTy).Contents (Elt Ideal)) (x4 : (⟨S128x1x1, .f32⟩ : BufTy).Contents (Elt Ideal)) (i : S1x1x10000.Idx) :
    val_main_v10 (F := Ideal) x0 x2 x4 i = ∑ k : Fin 128, x4 (lidx_main_v10 i k) * (val_main_v7 (F := Ideal) x0 x2) (ridx_main_v10 i k) := by
  unfold val_main_v10
  generalize val_main_v7 (F := Ideal) x0 x2 = y0
  simp only [Host.dotGeneral]
  rw [Ideal.dotGeneral_apply, ← Equiv.sum_comp (ValueIdx.contrEquiv1 dot_S128x1x1_S10000x1x128_S1x1x10000_0_2_2_0_1_1 128 rfl rfl).symm]
  refine Finset.sum_congr rfl fun k _ => ?_
  have hk := ValueIdx.contrEquiv1_symm_val dot_S128x1x1_S10000x1x128_S1x1x10000_0_2_2_0_1_1 128 rfl rfl k
  have el : dot_S128x1x1_S10000x1x128_S1x1x10000_0_2_2_0_1_1.lhsIdx i ((ValueIdx.contrEquiv1 dot_S128x1x1_S10000x1x128_S1x1x10000_0_2_2_0_1_1 128 rfl rfl).symm k) = lidx_main_v10 i k := funext fun a => Fin.ext (by
    match a with
    | ⟨0, _⟩ => exact (lhs_main_v10_0 _ _).trans hk
    | ⟨1, _⟩ => exact lhs_main_v10_1 _ _
    | ⟨2, _⟩ => exact lhs_main_v10_2 _ _)
  have er : dot_S128x1x1_S10000x1x128_S1x1x10000_0_2_2_0_1_1.rhsIdx i ((ValueIdx.contrEquiv1 dot_S128x1x1_S10000x1x128_S1x1x10000_0_2_2_0_1_1 128 rfl rfl).symm k) = ridx_main_v10 i k := funext fun a => Fin.ext (by
    match a with
    | ⟨0, _⟩ => exact rhs_main_v10_0 _ _
    | ⟨1, _⟩ => exact rhs_main_v10_1 _ _
    | ⟨2, _⟩ => exact (rhs_main_v10_2 _ _).trans hk)
  rw [el, er]

-- %11 = stablehlo.transpose %10, dims = [2, 0, 1] : (tensor<1x1x10000xf32>) -> tensor<10000x1x1xf32>
def val_main_v11 (x0 : (⟨S10000x128, .f32⟩ : BufTy).Contents (Elt F)) (x2 : (⟨S128x1x128, .f32⟩ : BufTy).Contents (Elt F)) (x4 : (⟨S128x1x1, .f32⟩ : BufTy).Contents (Elt F)) : (⟨S10000x1x1, .f32⟩ : BufTy).Contents (Elt F) :=
  transpose S10000x1x1 [2, 0, 1] (val_main_v10 (F := F) x0 x2 x4) transposes_S1x1x10000_S10000x1x1_2_0_1
abbrev idx_main_v11 (i : S10000x1x1.Idx) : S1x1x10000.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v11_apply (x0 : (⟨S10000x128, .f32⟩ : BufTy).Contents (Elt F)) (x2 : (⟨S128x1x128, .f32⟩ : BufTy).Contents (Elt F)) (x4 : (⟨S128x1x1, .f32⟩ : BufTy).Contents (Elt F)) (i : S10000x1x1.Idx) :
    val_main_v11 (F := F) x0 x2 x4 i = val_main_v10 (F := F) x0 x2 x4 (idx_main_v11 i) := by
  unfold val_main_v11
  generalize val_main_v10 (F := F) x0 x2 x4 = y
  exact transpose_apply [2, 0, 1] y transposes_S1x1x10000_S10000x1x1_2_0_1 i (idx_main_v11 i) (fun b => match b with
    | ⟨0, _⟩ => rfl
    | ⟨1, _⟩ => rfl
    | ⟨2, _⟩ => rfl)

-- %12 = stablehlo.transpose %11, dims = [2, 1, 0] : (tensor<10000x1x1xf32>) -> tensor<1x1x10000xf32>
def val_main_v12 (x0 : (⟨S10000x128, .f32⟩ : BufTy).Contents (Elt F)) (x2 : (⟨S128x1x128, .f32⟩ : BufTy).Contents (Elt F)) (x4 : (⟨S128x1x1, .f32⟩ : BufTy).Contents (Elt F)) : (⟨S1x1x10000, .f32⟩ : BufTy).Contents (Elt F) :=
  transpose S1x1x10000 [2, 1, 0] (val_main_v11 (F := F) x0 x2 x4) transposes_S10000x1x1_S1x1x10000_2_1_0
abbrev idx_main_v12 (i : S1x1x10000.Idx) : S10000x1x1.Idx := fun a => match a with
  | ⟨0, _⟩ => ⟨(i 2).val, (i 2).isLt⟩
  | ⟨1, _⟩ => ⟨(i 1).val, (i 1).isLt⟩
  | ⟨2, _⟩ => ⟨(i 0).val, (i 0).isLt⟩
theorem val_main_v12_apply (x0 : (⟨S10000x128, .f32⟩ : BufTy).Contents (Elt F)) (x2 : (⟨S128x1x128, .f32⟩ : BufTy).Contents (Elt F)) (x4 : (⟨S128x1x1, .f32⟩ : BufTy).Contents (Elt F)) (i : S1x1x10000.Idx) :
    val_main_v12 (F := F) x0 x2 x4 i = val_main_v11 (F := F) x0 x2 x4 (idx_main_v12 i) := by
  unfold val_main_v12
  generalize val_main_v11 (F := F) x0 x2 x4 = y
  exact transpose_apply [2, 1, 0] y transposes_S10000x1x1_S1x1x10000_2_1_0 i (idx_main_v12 i) (fun b => match b with
    | ⟨0, _⟩ => rfl
    | ⟨1, _⟩ => rfl
    | ⟨2, _⟩ => rfl)

-- %13 = stablehlo.broadcast_in_dim %9, dims = [0, 1, 2] : (tensor<10000x1x1xf32>) -> tensor<10000x1x10000xf32>
def val_main_v13 (x0 : (⟨S10000x128, .f32⟩ : BufTy).Contents (Elt F)) (x2 : (⟨S128x1x128, .f32⟩ : BufTy).Contents (Elt F)) (x3 : (⟨S128x1x1, .f32⟩ : BufTy).Contents (Elt F)) : (⟨S10000x1x10000, .f32⟩ : BufTy).Contents (Elt F) :=
  broadcastInDim S10000x1x10000 ![0, 1, 2] bcast_S10000x1x1_S10000x1x10000_0_1_2 (val_main_v9 (F := F) x0 x2 x3)
abbrev idx_main_v13 (i : S10000x1x10000.Idx) : S10000x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v13_apply (x0 : (⟨S10000x128, .f32⟩ : BufTy).Contents (Elt F)) (x2 : (⟨S128x1x128, .f32⟩ : BufTy).Contents (Elt F)) (x3 : (⟨S128x1x1, .f32⟩ : BufTy).Contents (Elt F)) (i : S10000x1x10000.Idx) :
    val_main_v13 (F := F) x0 x2 x3 i = val_main_v9 (F := F) x0 x2 x3 (idx_main_v13 i) := by
  unfold val_main_v13
  generalize val_main_v9 (F := F) x0 x2 x3 = y
  exact broadcastInDim_apply _ bcast_S10000x1x1_S10000x1x10000_0_1_2 y i (idx_main_v13 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %14 = stablehlo.broadcast_in_dim %12, dims = [0, 1, 2] : (tensor<1x1x10000xf32>) -> tensor<10000x1x10000xf32>
def val_main_v14 (x0 : (⟨S10000x128, .f32⟩ : BufTy).Contents (Elt F)) (x2 : (⟨S128x1x128, .f32⟩ : BufTy).Contents (Elt F)) (x4 : (⟨S128x1x1, .f32⟩ : BufTy).Contents (Elt F)) : (⟨S10000x1x10000, .f32⟩ : BufTy).Contents (Elt F) :=
  broadcastInDim S10000x1x10000 ![0, 1, 2] bcast_S1x1x10000_S10000x1x10000_0_1_2 (val_main_v12 (F := F) x0 x2 x4)
abbrev idx_main_v14 (i : S10000x1x10000.Idx) : S1x1x10000.Idx := fun a => match a with
  | ⟨0, _⟩ => ⟨0, Nat.one_pos⟩
  | ⟨1, _⟩ => ⟨0, Nat.one_pos⟩
  | ⟨2, _⟩ => ⟨(i 2).val, (i 2).isLt⟩
theorem val_main_v14_apply (x0 : (⟨S10000x128, .f32⟩ : BufTy).Contents (Elt F)) (x2 : (⟨S128x1x128, .f32⟩ : BufTy).Contents (Elt F)) (x4 : (⟨S128x1x1, .f32⟩ : BufTy).Contents (Elt F)) (i : S10000x1x10000.Idx) :
    val_main_v14 (F := F) x0 x2 x4 i = val_main_v12 (F := F) x0 x2 x4 (idx_main_v14 i) := by
  unfold val_main_v14
  generalize val_main_v12 (F := F) x0 x2 x4 = y
  exact broadcastInDim_apply _ bcast_S1x1x10000_S10000x1x10000_0_1_2 y i (idx_main_v14 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (10000 : Nat) = 1 then 0 else (i 2).val; rw [if_neg (by decide)])

-- %15 = stablehlo.add %13, %14 : tensor<10000x1x10000xf32>
def val_main_v15 (x0 : (⟨S10000x128, .f32⟩ : BufTy).Contents (Elt F)) (x2 : (⟨S128x1x128, .f32⟩ : BufTy).Contents (Elt F)) (x3 x4 : (⟨S128x1x1, .f32⟩ : BufTy).Contents (Elt F)) : (⟨S10000x1x10000, .f32⟩ : BufTy).Contents (Elt F) :=
  addf (val_main_v13 (F := F) x0 x2 x3) (val_main_v14 (F := F) x0 x2 x4)
theorem val_main_v15_apply (x0 : (⟨S10000x128, .f32⟩ : BufTy).Contents (Elt F)) (x2 : (⟨S128x1x128, .f32⟩ : BufTy).Contents (Elt F)) (x3 x4 : (⟨S128x1x1, .f32⟩ : BufTy).Contents (Elt F)) (i : S10000x1x10000.Idx) :
    val_main_v15 (F := F) x0 x2 x3 x4 i = FloatOps.addf (val_main_v13 (F := F) x0 x2 x3 i) (val_main_v14 (F := F) x0 x2 x4 i) := rfl

-- %cst_0 = stablehlo.constant dense<2.000000e-01> : tensor<f32>
def val_main_cst_0 : (⟨S_, .f32⟩ : BufTy).Contents (Elt F) :=
  constant S_ .f32 0x3E4CCCCD#32
theorem val_main_cst_0_apply (i : S_.Idx) :
    val_main_cst_0 (F := F) i = FloatOps.ofBits .f32 0x3E4CCCCD#32 := rfl

-- @leaky_relu's %cst = stablehlo.constant dense<0.000000e+00> : tensor<f32>, in %16 = func.call @leaky_relu(…) (record main_call1)
def val_main_call1_cst : (⟨S_, .f32⟩ : BufTy).Contents (Elt F) :=
  constant S_ .f32 0x00000000#32
theorem val_main_call1_cst_apply (i : S_.Idx) :
    val_main_call1_cst (F := F) i = FloatOps.ofBits .f32 0x00000000#32 := rfl

-- @leaky_relu's %0 = stablehlo.broadcast_in_dim %cst, dims = [] : (tensor<f32>) -> tensor<10000x1x10000xf32>, in %16 = func.call @leaky_relu(…) (record main_call1)
def val_main_call1_v0 : (⟨S10000x1x10000, .f32⟩ : BufTy).Contents (Elt F) :=
  broadcastInDim S10000x1x10000 ![] bcast_S_S10000x1x10000 (val_main_call1_cst (F := F))
abbrev idx_main_call1_v0 (i : S10000x1x10000.Idx) : S_.Idx := fun a => a.elim0
theorem val_main_call1_v0_apply (i : S10000x1x10000.Idx) :
    val_main_call1_v0 (F := F) i = val_main_call1_cst (F := F) (idx_main_call1_v0 i) := by
  unfold val_main_call1_v0
  generalize val_main_call1_cst (F := F) = y
  exact broadcastInDim_apply _ bcast_S_S10000x1x10000 y i (idx_main_call1_v0 i) (fun a => a.elim0)

-- @leaky_relu's %1 = stablehlo.compare GE, %arg0, %0, FLOAT : (tensor<10000x1x10000xf32>, tensor<10000x1x10000xf32>) -> tensor<10000x1x10000xi1>, in %16 = func.call @leaky_relu(…) (record main_call1)
def val_main_call1_v1 (x0 : (⟨S10000x128, .f32⟩ : BufTy).Contents (Elt F)) (x2 : (⟨S128x1x128, .f32⟩ : BufTy).Contents (Elt F)) (x3 x4 : (⟨S128x1x1, .f32⟩ : BufTy).Contents (Elt F)) : (⟨S10000x1x10000, .i1⟩ : BufTy).Contents (Elt F) :=
  cmpf .oge (val_main_v15 (F := F) x0 x2 x3 x4) (val_main_call1_v0 (F := F))
theorem val_main_call1_v1_apply (x0 : (⟨S10000x128, .f32⟩ : BufTy).Contents (Elt F)) (x2 : (⟨S128x1x128, .f32⟩ : BufTy).Contents (Elt F)) (x3 x4 : (⟨S128x1x1, .f32⟩ : BufTy).Contents (Elt F)) (i : S10000x1x10000.Idx) :
    val_main_call1_v1 (F := F) x0 x2 x3 x4 i = FloatOps.cmpf .oge (val_main_v15 (F := F) x0 x2 x3 x4 i) (val_main_call1_v0 (F := F) i) := rfl

-- @leaky_relu's %2 = stablehlo.convert %arg1 : tensor<f32>, in %16 = func.call @leaky_relu(…) (record main_call1)
def val_main_call1_v2 : (⟨S_, .f32⟩ : BufTy).Contents (Elt F) :=
  id (val_main_cst_0 (F := F))
theorem val_main_call1_v2_apply (i : S_.Idx) :
    val_main_call1_v2 (F := F) i = (val_main_cst_0 (F := F) i) := rfl

-- @leaky_relu's %3 = stablehlo.broadcast_in_dim %2, dims = [] : (tensor<f32>) -> tensor<10000x1x10000xf32>, in %16 = func.call @leaky_relu(…) (record main_call1)
def val_main_call1_v3 : (⟨S10000x1x10000, .f32⟩ : BufTy).Contents (Elt F) :=
  broadcastInDim S10000x1x10000 ![] bcast_S_S10000x1x10000 (val_main_call1_v2 (F := F))
abbrev idx_main_call1_v3 (i : S10000x1x10000.Idx) : S_.Idx := fun a => a.elim0
theorem val_main_call1_v3_apply (i : S10000x1x10000.Idx) :
    val_main_call1_v3 (F := F) i = val_main_call1_v2 (F := F) (idx_main_call1_v3 i) := by
  unfold val_main_call1_v3
  generalize val_main_call1_v2 (F := F) = y
  exact broadcastInDim_apply _ bcast_S_S10000x1x10000 y i (idx_main_call1_v3 i) (fun a => a.elim0)

-- @leaky_relu's %4 = stablehlo.multiply %3, %arg0 : tensor<10000x1x10000xf32>, in %16 = func.call @leaky_relu(…) (record main_call1)
def val_main_call1_v4 (x0 : (⟨S10000x128, .f32⟩ : BufTy).Contents (Elt F)) (x2 : (⟨S128x1x128, .f32⟩ : BufTy).Contents (Elt F)) (x3 x4 : (⟨S128x1x1, .f32⟩ : BufTy).Contents (Elt F)) : (⟨S10000x1x10000, .f32⟩ : BufTy).Contents (Elt F) :=
  mulf (val_main_call1_v3 (F := F)) (val_main_v15 (F := F) x0 x2 x3 x4)
theorem val_main_call1_v4_apply (x0 : (⟨S10000x128, .f32⟩ : BufTy).Contents (Elt F)) (x2 : (⟨S128x1x128, .f32⟩ : BufTy).Contents (Elt F)) (x3 x4 : (⟨S128x1x1, .f32⟩ : BufTy).Contents (Elt F)) (i : S10000x1x10000.Idx) :
    val_main_call1_v4 (F := F) x0 x2 x3 x4 i = FloatOps.mulf (val_main_call1_v3 (F := F) i) (val_main_v15 (F := F) x0 x2 x3 x4 i) := rfl

-- @leaky_relu's %5 = func.call @_where_0(…) (record main_call1_call0) result 0: @_where_0's %0 = stablehlo.select %arg0, %arg1, %arg2 : tensor<10000x1x10000xi1>, tensor<10000x1x10000xf32>
def val_main_v16 (x0 : (⟨S10000x128, .f32⟩ : BufTy).Contents (Elt F)) (x2 : (⟨S128x1x128, .f32⟩ : BufTy).Contents (Elt F)) (x3 x4 : (⟨S128x1x1, .f32⟩ : BufTy).Contents (Elt F)) : (⟨S10000x1x10000, .f32⟩ : BufTy).Contents (Elt F) :=
  select (val_main_call1_v1 (F := F) x0 x2 x3 x4) (val_main_v15 (F := F) x0 x2 x3 x4) (val_main_call1_v4 (F := F) x0 x2 x3 x4)
theorem val_main_v16_apply (x0 : (⟨S10000x128, .f32⟩ : BufTy).Contents (Elt F)) (x2 : (⟨S128x1x128, .f32⟩ : BufTy).Contents (Elt F)) (x3 x4 : (⟨S128x1x1, .f32⟩ : BufTy).Contents (Elt F)) (i : S10000x1x10000.Idx) :
    val_main_v16 (F := F) x0 x2 x3 x4 i = Scalar.select (val_main_call1_v1 (F := F) x0 x2 x3 x4 i) (val_main_v15 (F := F) x0 x2 x3 x4 i) (val_main_call1_v4 (F := F) x0 x2 x3 x4 i) := rfl

-- %17 = stablehlo.broadcast_in_dim %6, dims = [0, 2] : (tensor<10000x10000xf32>) -> tensor<10000x1x10000xf32>
def val_main_v17 (r0 : (⟨S10000x10000, .f32⟩ : BufTy).Contents (Elt F)) : (⟨S10000x1x10000, .f32⟩ : BufTy).Contents (Elt F) :=
  broadcastInDim S10000x1x10000 ![0, 2] bcast_S10000x10000_S10000x1x10000_0_2 (r0)
abbrev idx_main_v17 (i : S10000x1x10000.Idx) : S10000x10000.Idx := fun a => match a with
  | ⟨0, _⟩ => ⟨(i 0).val, (i 0).isLt⟩
  | ⟨1, _⟩ => ⟨(i 2).val, (i 2).isLt⟩
theorem val_main_v17_apply (r0 : (⟨S10000x10000, .f32⟩ : BufTy).Contents (Elt F)) (i : S10000x1x10000.Idx) :
    val_main_v17 (F := F) r0 i = r0 (idx_main_v17 i) := by
  unfold val_main_v17
  exact broadcastInDim_apply _ bcast_S10000x10000_S10000x1x10000_0_2 r0 i (idx_main_v17 i) (fun a => match a with
    | ⟨0, _⟩ => by show (i 0).val = if (10000 : Nat) = 1 then 0 else (i 0).val; rw [if_neg (by decide)]
    | ⟨1, _⟩ => by show (i 2).val = if (10000 : Nat) = 1 then 0 else (i 2).val; rw [if_neg (by decide)])

-- %18 = stablehlo.add %16, %17 : tensor<10000x1x10000xf32>
def val_main_v18 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x10000, .f32⟩ : BufTy).Contents (Elt F) :=
  addf (val_main_v16 (F := F) x0 x2 x3 x4) (val_main_v17 (F := F) r0)
theorem val_main_v18_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x10000.Idx) :
    val_main_v18 (F := F) x0 x2 x3 x4 r0 i = FloatOps.addf (val_main_v16 (F := F) x0 x2 x3 x4 i) (val_main_v17 (F := F) r0 i) := rfl

-- %cst_1 = stablehlo.constant dense<0xFF800000> : tensor<f32>
def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

-- %19 = stablehlo.reduce(%18 init: %cst_1) applies stablehlo.maximum across dimensions = [2] : (tensor<10000x1x10000xf32>, tensor<f32>) -> tensor<10000x1xf32> {
def val_main_v19 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1, .f32⟩ : BufTy).Contents (Elt F) :=
  Host.reduce FloatOps.maximumf (val_main_v18 (F := F) x0 x2 x3 x4 r0) (val_main_cst_1 (F := F)) reducesTo_S10000x1x10000_S10000x1_d2 h_S_

-- %cst_2 = stablehlo.constant dense<0xFF800000> : tensor<f32>
def val_main_cst_2 : (⟨S_, .f32⟩ : BufTy).Contents (Elt F) :=
  constant S_ .f32 0xFF800000#32
theorem val_main_cst_2_apply (i : S_.Idx) :
    val_main_cst_2 (F := F) i = FloatOps.ofBits .f32 0xFF800000#32 := rfl

-- %20 = stablehlo.broadcast_in_dim %cst_2, dims = [] : (tensor<f32>) -> tensor<10000x1xf32>
def val_main_v20 : (⟨S10000x1, .f32⟩ : BufTy).Contents (Elt F) :=
  broadcastInDim S10000x1 ![] bcast_S_S10000x1 (val_main_cst_2 (F := F))
abbrev idx_main_v20 (i : S10000x1.Idx) : S_.Idx := fun a => a.elim0
theorem val_main_v20_apply (i : S10000x1.Idx) :
    val_main_v20 (F := F) i = val_main_cst_2 (F := F) (idx_main_v20 i) := by
  unfold val_main_v20
  generalize val_main_cst_2 (F := F) = y
  exact broadcastInDim_apply _ bcast_S_S10000x1 y i (idx_main_v20 i) (fun a => a.elim0)

-- %21 = stablehlo.maximum %20, %19 : tensor<10000x1xf32>
def val_main_v21 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1, .f32⟩ : BufTy).Contents (Elt F) :=
  maximumf (val_main_v20 (F := F)) (val_main_v19 (F := F) x0 x2 x3 x4 r0)
theorem val_main_v21_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1.Idx) :
    val_main_v21 (F := F) x0 x2 x3 x4 r0 i = FloatOps.maximumf (val_main_v20 (F := F) i) (val_main_v19 (F := F) x0 x2 x3 x4 r0 i) := rfl

-- %22 = stablehlo.broadcast_in_dim %21, dims = [0, 1] : (tensor<10000x1xf32>) -> tensor<10000x1x1xf32>
def val_main_v22 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x1, .f32⟩ : BufTy).Contents (Elt F) :=
  broadcastInDim S10000x1x1 ![0, 1] bcast_S10000x1_S10000x1x1_0_1 (val_main_v21 (F := F) x0 x2 x3 x4 r0)
abbrev idx_main_v22 (i : S10000x1x1.Idx) : S10000x1.Idx := fun a => match a with
  | ⟨0, _⟩ => ⟨(i 0).val, (i 0).isLt⟩
  | ⟨1, _⟩ => ⟨0, Nat.one_pos⟩
theorem val_main_v22_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x1.Idx) :
    val_main_v22 (F := F) x0 x2 x3 x4 r0 i = val_main_v21 (F := F) x0 x2 x3 x4 r0 (idx_main_v22 i) := by
  unfold val_main_v22
  generalize val_main_v21 (F := F) x0 x2 x3 x4 r0 = y
  exact broadcastInDim_apply _ bcast_S10000x1_S10000x1x1_0_1 y i (idx_main_v22 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

-- %23 = stablehlo.broadcast_in_dim %22, dims = [0, 1, 2] : (tensor<10000x1x1xf32>) -> tensor<10000x1x10000xf32>
def val_main_v23 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x10000, .f32⟩ : BufTy).Contents (Elt F) :=
  broadcastInDim S10000x1x10000 ![0, 1, 2] bcast_S10000x1x1_S10000x1x10000_0_1_2 (val_main_v22 (F := F) x0 x2 x3 x4 r0)
abbrev idx_main_v23 (i : S10000x1x10000.Idx) : S10000x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v23_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x10000.Idx) :
    val_main_v23 (F := F) x0 x2 x3 x4 r0 i = val_main_v22 (F := F) x0 x2 x3 x4 r0 (idx_main_v23 i) := by
  unfold val_main_v23
  generalize val_main_v22 (F := F) x0 x2 x3 x4 r0 = y
  exact broadcastInDim_apply _ bcast_S10000x1x1_S10000x1x10000_0_1_2 y i (idx_main_v23 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %24 = stablehlo.subtract %18, %23 : tensor<10000x1x10000xf32>
def val_main_v24 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x10000, .f32⟩ : BufTy).Contents (Elt F) :=
  subf (val_main_v18 (F := F) x0 x2 x3 x4 r0) (val_main_v23 (F := F) x0 x2 x3 x4 r0)
theorem val_main_v24_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x10000.Idx) :
    val_main_v24 (F := F) x0 x2 x3 x4 r0 i = FloatOps.subf (val_main_v18 (F := F) x0 x2 x3 x4 r0 i) (val_main_v23 (F := F) x0 x2 x3 x4 r0 i) := rfl

-- %25 = stablehlo.exponential %24 : tensor<10000x1x10000xf32>
def val_main_v25 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x10000, .f32⟩ : BufTy).Contents (Elt F) :=
  Host.exp (val_main_v24 (F := F) x0 x2 x3 x4 r0)
theorem val_main_v25_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x10000.Idx) :
    val_main_v25 (F := F) x0 x2 x3 x4 r0 i = FloatOps.hostUnary .exp (val_main_v24 (F := F) x0 x2 x3 x4 r0 i) := rfl

-- %cst_3 = stablehlo.constant dense<0.000000e+00> : tensor<f32>
def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

-- %26 = stablehlo.reduce(%25 init: %cst_3) applies stablehlo.add across dimensions = [2] : (tensor<10000x1x10000xf32>, tensor<f32>) -> tensor<10000x1xf32> {
def val_main_v26 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1, .f32⟩ : BufTy).Contents (Elt F) :=
  Host.reduceAdd (val_main_v25 (F := F) x0 x2 x3 x4 r0) (val_main_cst_3 (F := F)) reducesTo_S10000x1x10000_S10000x1_d2 h_S_
abbrev idx_main_v26 (i : S10000x1.Idx) (k : Fin 10000) : S10000x1x10000.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v26_apply (x0 : (⟨S10000x128, .f32⟩ : BufTy).Contents (Elt Ideal)) (x2 : (⟨S128x1x128, .f32⟩ : BufTy).Contents (Elt Ideal)) (x3 x4 : (⟨S128x1x1, .f32⟩ : BufTy).Contents (Elt Ideal)) (r0 : (⟨S10000x10000, .f32⟩ : BufTy).Contents (Elt Ideal)) (i : S10000x1.Idx) :
    val_main_v26 (F := Ideal) x0 x2 x3 x4 r0 i = (val_main_cst_3 (F := Ideal)) (Shape.Idx.first h_S_) + ∑ k : Fin 10000, (val_main_v25 (F := Ideal) x0 x2 x3 x4 r0) (idx_main_v26 i k) := by
  unfold val_main_v26
  generalize val_main_v25 (F := Ideal) x0 x2 x3 x4 r0 = y0
  simp only [Host.reduceAdd, Ideal.hostReduceAdd_def]
  rw [Ideal.hostReduceAdd_single reducesTo_S10000x1x10000_S10000x1_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %27 = stablehlo.broadcast_in_dim %26, dims = [0, 1] : (tensor<10000x1xf32>) -> tensor<10000x1x1xf32>
def val_main_v27 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x1, .f32⟩ : BufTy).Contents (Elt F) :=
  broadcastInDim S10000x1x1 ![0, 1] bcast_S10000x1_S10000x1x1_0_1 (val_main_v26 (F := F) x0 x2 x3 x4 r0)
abbrev idx_main_v27 (i : S10000x1x1.Idx) : S10000x1.Idx := fun a => match a with
  | ⟨0, _⟩ => ⟨(i 0).val, (i 0).isLt⟩
  | ⟨1, _⟩ => ⟨0, Nat.one_pos⟩
theorem val_main_v27_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x1.Idx) :
    val_main_v27 (F := F) x0 x2 x3 x4 r0 i = val_main_v26 (F := F) x0 x2 x3 x4 r0 (idx_main_v27 i) := by
  unfold val_main_v27
  generalize val_main_v26 (F := F) x0 x2 x3 x4 r0 = y
  exact broadcastInDim_apply _ bcast_S10000x1_S10000x1x1_0_1 y i (idx_main_v27 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl])

-- %28 = stablehlo.broadcast_in_dim %27, dims = [0, 1, 2] : (tensor<10000x1x1xf32>) -> tensor<10000x1x10000xf32>
def val_main_v28 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x10000, .f32⟩ : BufTy).Contents (Elt F) :=
  broadcastInDim S10000x1x10000 ![0, 1, 2] bcast_S10000x1x1_S10000x1x10000_0_1_2 (val_main_v27 (F := F) x0 x2 x3 x4 r0)
abbrev idx_main_v28 (i : S10000x1x10000.Idx) : S10000x1x1.Idx := fun a => match a with
  | ⟨0, _⟩ => ⟨(i 0).val, (i 0).isLt⟩
  | ⟨1, _⟩ => ⟨0, Nat.one_pos⟩
  | ⟨2, _⟩ => ⟨0, Nat.one_pos⟩
theorem val_main_v28_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x10000.Idx) :
    val_main_v28 (F := F) x0 x2 x3 x4 r0 i = val_main_v27 (F := F) x0 x2 x3 x4 r0 (idx_main_v28 i) := by
  unfold val_main_v28
  generalize val_main_v27 (F := F) x0 x2 x3 x4 r0 = y
  exact broadcastInDim_apply _ bcast_S10000x1x1_S10000x1x10000_0_1_2 y i (idx_main_v28 i) (fun a => match a with
    | ⟨0, _⟩ => by show (i 0).val = if (10000 : Nat) = 1 then 0 else (i 0).val; rw [if_neg (by decide)]
    | ⟨1, _⟩ => by show 0 = if (1 : Nat) = 1 then 0 else (i 1).val; rw [if_pos rfl]
    | ⟨2, _⟩ => by show 0 = if (1 : Nat) = 1 then 0 else (i 2).val; rw [if_pos rfl])

-- %29 = stablehlo.divide %25, %28 : tensor<10000x1x10000xf32>
def val_main_v29 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x10000, .f32⟩ : BufTy).Contents (Elt F) :=
  Host.divf (val_main_v25 (F := F) x0 x2 x3 x4 r0) (val_main_v28 (F := F) x0 x2 x3 x4 r0)
theorem val_main_v29_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x10000.Idx) :
    val_main_v29 (F := F) x0 x2 x3 x4 r0 i = FloatOps.hostDivf (val_main_v25 (F := F) x0 x2 x3 x4 r0 i) (val_main_v28 (F := F) x0 x2 x3 x4 r0 i) := rfl

-- %30 = stablehlo.dot_general %7, %29, batching_dims = [1] x [1], contracting_dims = [0] x [2], precision = [DEFAULT, DEFAULT] : (tensor<10000x1x128xf32>, tensor<10000x1x10000xf32>) -> tensor<1x128x10000xf32>
def val_main_v30 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S1x128x10000, .f32⟩ : BufTy).Contents (Elt F) :=
  Host.dotGeneral dot_S10000x1x128_S10000x1x10000_S1x128x10000_0_2_2_0_1_1 none (val_main_v7 (F := F) x0 x2) (val_main_v29 (F := F) x0 x2 x3 x4 r0)
theorem lhs_main_v30_0 (i : S1x128x10000.Idx) (q : dot_S10000x1x128_S10000x1x10000_S1x128x10000_0_2_2_0_1_1.contr.Idx) :
    (dot_S10000x1x128_S10000x1x10000_S1x128x10000_0_2_2_0_1_1.lhsIdx i q 0).val = (q ⟨0, by decide⟩).val :=
  dot_S10000x1x128_S10000x1x10000_S1x128x10000_0_2_2_0_1_1.lhsIdx_val_of_single rfl i q
theorem lhs_main_v30_1 (i : S1x128x10000.Idx) (q : dot_S10000x1x128_S10000x1x10000_S1x128x10000_0_2_2_0_1_1.contr.Idx) :
    (dot_S10000x1x128_S10000x1x10000_S1x128x10000_0_2_2_0_1_1.lhsIdx i q 1).val = (i 0).val := by
  unfold DotDims.lhsIdx
  rw [dif_pos (show (1 : Fin S10000x1x128.rank) ∈ dot_S10000x1x128_S10000x1x10000_S1x128x10000_0_2_2_0_1_1.lhsBatch by decide)]
  rfl
theorem lhs_main_v30_2 (i : S1x128x10000.Idx) (q : dot_S10000x1x128_S10000x1x10000_S1x128x10000_0_2_2_0_1_1.contr.Idx) :
    (dot_S10000x1x128_S10000x1x10000_S1x128x10000_0_2_2_0_1_1.lhsIdx i q 2).val = (i 1).val := by
  unfold DotDims.lhsIdx
  rw [dif_neg (show ¬(2 : Fin S10000x1x128.rank) ∈ dot_S10000x1x128_S10000x1x10000_S1x128x10000_0_2_2_0_1_1.lhsBatch by decide), dif_pos (show (2 : Fin S10000x1x128.rank) ∈ dot_S10000x1x128_S10000x1x10000_S1x128x10000_0_2_2_0_1_1.lhsNonContracting by decide)]
  rfl
theorem rhs_main_v30_0 (i : S1x128x10000.Idx) (q : dot_S10000x1x128_S10000x1x10000_S1x128x10000_0_2_2_0_1_1.contr.Idx) :
    (dot_S10000x1x128_S10000x1x10000_S1x128x10000_0_2_2_0_1_1.rhsIdx i q 0).val = (i 2).val := by
  unfold DotDims.rhsIdx
  rw [dif_neg (show ¬(0 : Fin S10000x1x10000.rank) ∈ dot_S10000x1x128_S10000x1x10000_S1x128x10000_0_2_2_0_1_1.rhsBatch by decide), dif_pos (show (0 : Fin S10000x1x10000.rank) ∈ dot_S10000x1x128_S10000x1x10000_S1x128x10000_0_2_2_0_1_1.rhsNonContracting by decide)]
  rfl
theorem rhs_main_v30_1 (i : S1x128x10000.Idx) (q : dot_S10000x1x128_S10000x1x10000_S1x128x10000_0_2_2_0_1_1.contr.Idx) :
    (dot_S10000x1x128_S10000x1x10000_S1x128x10000_0_2_2_0_1_1.rhsIdx i q 1).val = (i 0).val := by
  unfold DotDims.rhsIdx
  rw [dif_pos (show (1 : Fin S10000x1x10000.rank) ∈ dot_S10000x1x128_S10000x1x10000_S1x128x10000_0_2_2_0_1_1.rhsBatch by decide)]
  rfl
theorem rhs_main_v30_2 (i : S1x128x10000.Idx) (q : dot_S10000x1x128_S10000x1x10000_S1x128x10000_0_2_2_0_1_1.contr.Idx) :
    (dot_S10000x1x128_S10000x1x10000_S1x128x10000_0_2_2_0_1_1.rhsIdx i q 2).val = (q ⟨0, by decide⟩).val :=
  dot_S10000x1x128_S10000x1x10000_S1x128x10000_0_2_2_0_1_1.rhsIdx_val_of_single rfl i q
abbrev lidx_main_v30 (i : S1x128x10000.Idx) (k : Fin 10000) : S10000x1x128.Idx := fun a => match a with
  | ⟨0, _⟩ => ⟨k.val, k.isLt⟩
  | ⟨1, _⟩ => ⟨(i 0).val, (i 0).isLt⟩
  | ⟨2, _⟩ => ⟨(i 1).val, (i 1).isLt⟩
abbrev ridx_main_v30 (i : S1x128x10000.Idx) (k : Fin 10000) : S10000x1x10000.Idx := fun a => match a with
  | ⟨0, _⟩ => ⟨(i 2).val, (i 2).isLt⟩
  | ⟨1, _⟩ => ⟨(i 0).val, (i 0).isLt⟩
  | ⟨2, _⟩ => ⟨k.val, k.isLt⟩
/-- Stated at `F := Ideal`, where the host's `dot_general` is this sum; at a bit-exact instance it is an opaque function of its operands. -/
theorem val_main_v30_apply (x0 : (⟨S10000x128, .f32⟩ : BufTy).Contents (Elt Ideal)) (x2 : (⟨S128x1x128, .f32⟩ : BufTy).Contents (Elt Ideal)) (x3 x4 : (⟨S128x1x1, .f32⟩ : BufTy).Contents (Elt Ideal)) (r0 : (⟨S10000x10000, .f32⟩ : BufTy).Contents (Elt Ideal)) (i : S1x128x10000.Idx) :
    val_main_v30 (F := Ideal) x0 x2 x3 x4 r0 i = ∑ k : Fin 10000, (val_main_v7 (F := Ideal) x0 x2) (lidx_main_v30 i k) * (val_main_v29 (F := Ideal) x0 x2 x3 x4 r0) (ridx_main_v30 i k) := by
  unfold val_main_v30
  generalize val_main_v7 (F := Ideal) x0 x2 = y0
  generalize val_main_v29 (F := Ideal) x0 x2 x3 x4 r0 = y1
  simp only [Host.dotGeneral]
  rw [Ideal.dotGeneral_apply, ← Equiv.sum_comp (ValueIdx.contrEquiv1 dot_S10000x1x128_S10000x1x10000_S1x128x10000_0_2_2_0_1_1 10000 rfl rfl).symm]
  refine Finset.sum_congr rfl fun k _ => ?_
  have hk := ValueIdx.contrEquiv1_symm_val dot_S10000x1x128_S10000x1x10000_S1x128x10000_0_2_2_0_1_1 10000 rfl rfl k
  have el : dot_S10000x1x128_S10000x1x10000_S1x128x10000_0_2_2_0_1_1.lhsIdx i ((ValueIdx.contrEquiv1 dot_S10000x1x128_S10000x1x10000_S1x128x10000_0_2_2_0_1_1 10000 rfl rfl).symm k) = lidx_main_v30 i k := funext fun a => Fin.ext (by
    match a with
    | ⟨0, _⟩ => exact (lhs_main_v30_0 _ _).trans hk
    | ⟨1, _⟩ => exact lhs_main_v30_1 _ _
    | ⟨2, _⟩ => exact lhs_main_v30_2 _ _)
  have er : dot_S10000x1x128_S10000x1x10000_S1x128x10000_0_2_2_0_1_1.rhsIdx i ((ValueIdx.contrEquiv1 dot_S10000x1x128_S10000x1x10000_S1x128x10000_0_2_2_0_1_1 10000 rfl rfl).symm k) = ridx_main_v30 i k := funext fun a => Fin.ext (by
    match a with
    | ⟨0, _⟩ => exact rhs_main_v30_0 _ _
    | ⟨1, _⟩ => exact rhs_main_v30_1 _ _
    | ⟨2, _⟩ => exact (rhs_main_v30_2 _ _).trans hk)
  rw [el, er]

-- %31 = stablehlo.transpose %30, dims = [2, 0, 1] : (tensor<1x128x10000xf32>) -> tensor<10000x1x128xf32>
def val_main_v31 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x1x128, .f32⟩ : BufTy).Contents (Elt F) :=
  transpose S10000x1x128 [2, 0, 1] (val_main_v30 (F := F) x0 x2 x3 x4 r0) transposes_S1x128x10000_S10000x1x128_2_0_1
abbrev idx_main_v31 (i : S10000x1x128.Idx) : S1x128x10000.Idx := fun a => match a with
  | ⟨0, _⟩ => ⟨(i 1).val, (i 1).isLt⟩
  | ⟨1, _⟩ => ⟨(i 2).val, (i 2).isLt⟩
  | ⟨2, _⟩ => ⟨(i 0).val, (i 0).isLt⟩
theorem val_main_v31_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x1x128.Idx) :
    val_main_v31 (F := F) x0 x2 x3 x4 r0 i = val_main_v30 (F := F) x0 x2 x3 x4 r0 (idx_main_v31 i) := by
  unfold val_main_v31
  generalize val_main_v30 (F := F) x0 x2 x3 x4 r0 = y
  exact transpose_apply [2, 0, 1] y transposes_S1x128x10000_S10000x1x128_2_0_1 i (idx_main_v31 i) (fun b => match b with
    | ⟨0, _⟩ => rfl
    | ⟨1, _⟩ => rfl
    | ⟨2, _⟩ => rfl)

-- %32 = stablehlo.reshape %31 : (tensor<10000x1x128xf32>) -> tensor<10000x128xf32>
def val_main_v32 (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) : (⟨S10000x128, .f32⟩ : BufTy).Contents (Elt F) :=
  shapeCast _ (val_main_v31 (F := F) x0 x2 x3 x4 r0) shapeCasts_S10000x1x128_S10000x128
set_option backward.proofsInPublic true in
abbrev idx_main_v32 (i : S10000x128.Idx) : S10000x1x128.Idx := fun a => match a with
  | ⟨0, _⟩ => ⟨((i 0).val * 128 + (i 1).val) / 128, by have h0 : (i 0).val < 10000 := (i 0).isLt; have h1 : (i 1).val < 128 := (i 1).isLt; show ((i 0).val * 128 + (i 1).val) / 128 < 10000; omega⟩
  | ⟨1, _⟩ => ⟨0, Nat.one_pos⟩
  | ⟨2, _⟩ => ⟨((i 0).val * 128 + (i 1).val) % 128, by have h0 : (i 0).val < 10000 := (i 0).isLt; have h1 : (i 1).val < 128 := (i 1).isLt; show ((i 0).val * 128 + (i 1).val) % 128 < 128; omega⟩
theorem val_main_v32_apply (x0 : (⟨S10000x128, .f32⟩ : BufTy).Contents (Elt F)) (x2 : (⟨S128x1x128, .f32⟩ : BufTy).Contents (Elt F)) (x3 x4 : (⟨S128x1x1, .f32⟩ : BufTy).Contents (Elt F)) (r0 : (⟨S10000x10000, .f32⟩ : BufTy).Contents (Elt F)) (i : S10000x128.Idx) :
    val_main_v32 (F := F) x0 x2 x3 x4 r0 i = val_main_v31 (F := F) x0 x2 x3 x4 r0 (idx_main_v32 i) := by
  unfold val_main_v32
  generalize val_main_v31 (F := F) x0 x2 x3 x4 r0 = y
  exact shapeCast_apply y shapeCasts_S10000x1x128_S10000x128 i (idx_main_v32 i)
    (by rewrite [Shape.rowMajor_val_three, Shape.rowMajor_val_two]; have h0 : (i 0).val < 10000 := (i 0).isLt; have h1 : (i 1).val < 128 := (i 1).isLt; show (((i 0).val * 128 + (i 1).val) / 128 * 1 + 0) * 128 + ((i 0).val * 128 + (i 1).val) % 128 = (i 0).val * 128 + (i 1).val; omega)

-- %33 = stablehlo.broadcast_in_dim %arg5, dims = [1] : (tensor<128xf32>) -> tensor<1x128xf32>
def val_main_v33 (x5 : (⟨S128, .f32⟩ : BufTy).Contents (Elt F)) : (⟨S1x128, .f32⟩ : BufTy).Contents (Elt F) :=
  broadcastInDim S1x128 ![1] bcast_S128_S1x128_1 (x5)
abbrev idx_main_v33 (i : S1x128.Idx) : S128.Idx := fun a => match a with
  | ⟨0, _⟩ => ⟨(i 1).val, (i 1).isLt⟩
theorem val_main_v33_apply (x5 : (⟨S128, .f32⟩ : BufTy).Contents (Elt F)) (i : S1x128.Idx) :
    val_main_v33 (F := F) x5 i = x5 (idx_main_v33 i) := by
  unfold val_main_v33
  exact broadcastInDim_apply _ bcast_S128_S1x128_1 x5 i (idx_main_v33 i) (fun a => match a with
    | ⟨0, _⟩ => by show (i 1).val = if (128 : Nat) = 1 then 0 else (i 1).val; rw [if_neg (by decide)])

-- %34 = stablehlo.broadcast_in_dim %33, dims = [0, 1] : (tensor<1x128xf32>) -> tensor<10000x128xf32>
def val_main_v34 (x5 : (⟨S128, .f32⟩ : BufTy).Contents (Elt F)) : (⟨S10000x128, .f32⟩ : BufTy).Contents (Elt F) :=
  broadcastInDim S10000x128 ![0, 1] bcast_S1x128_S10000x128_0_1 (val_main_v33 (F := F) x5)
abbrev idx_main_v34 (i : S10000x128.Idx) : S1x128.Idx := fun a => match a with
  | ⟨0, _⟩ => ⟨0, Nat.one_pos⟩
  | ⟨1, _⟩ => ⟨(i 1).val, (i 1).isLt⟩
theorem val_main_v34_apply (x5 : (⟨S128, .f32⟩ : BufTy).Contents (Elt F)) (i : S10000x128.Idx) :
    val_main_v34 (F := F) x5 i = val_main_v33 (F := F) x5 (idx_main_v34 i) := by
  unfold val_main_v34
  generalize val_main_v33 (F := F) x5 = y
  exact broadcastInDim_apply _ bcast_S1x128_S10000x128_0_1 y i (idx_main_v34 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])

-- %35 = stablehlo.add %32, %34 : tensor<10000x128xf32>
def val_main_v35 (x0 : (⟨S10000x128, .f32⟩ : BufTy).Contents (Elt F)) (x2 : (⟨S128x1x128, .f32⟩ : BufTy).Contents (Elt F)) (x3 x4 : (⟨S128x1x1, .f32⟩ : BufTy).Contents (Elt F)) (x5 : (⟨S128, .f32⟩ : BufTy).Contents (Elt F)) (r0 : (⟨S10000x10000, .f32⟩ : BufTy).Contents (Elt F)) : (⟨S10000x128, .f32⟩ : BufTy).Contents (Elt F) :=
  addf (val_main_v32 (F := F) x0 x2 x3 x4 r0) (val_main_v34 (F := F) x5)
theorem val_main_v35_apply (x0 : (⟨S10000x128, .f32⟩ : BufTy).Contents (Elt F)) (x2 : (⟨S128x1x128, .f32⟩ : BufTy).Contents (Elt F)) (x3 x4 : (⟨S128x1x1, .f32⟩ : BufTy).Contents (Elt F)) (x5 : (⟨S128, .f32⟩ : BufTy).Contents (Elt F)) (r0 : (⟨S10000x10000, .f32⟩ : BufTy).Contents (Elt F)) (i : S10000x128.Idx) :
    val_main_v35 (F := F) x0 x2 x3 x4 x5 r0 i = FloatOps.addf (val_main_v32 (F := F) x0 x2 x3 x4 r0 i) (val_main_v34 (F := F) x5 i) := rfl

/-- The term the Run module states for `main_v35` over any contents `V0` is the stage. -/
theorem val_main_v35_eq (V0 : Valuation τ sig (Elt F)) :
    addf (shapeCast _ (transpose S10000x1x128 [2, 0, 1] (Host.dotGeneral dot_S10000x1x128_S10000x1x10000_S1x128x10000_0_2_2_0_1_1 none (Host.dotGeneral dot_S10000x128_S128x1x128_S10000x1x128_1_0_0_12_n_n none (V0 (Proc.devRef .tc main_arg0)) (V0 (Proc.devRef .tc main_arg2))) (Host.divf (Host.exp (subf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))))) (broadcastInDim S10000x1x10000 ![0, 2] bcast_S10000x10000_S10000x1x10000_0_2 (V0 (Proc.devRef .tc main_v6)))) (broadcastInDim S10000x1x10000 ![0, 1, 2] bcast_S10000x1x1_S10000x1x10000_0_1_2 (broadcastInDim S10000x1x1 ![0, 1] bcast_S10000x1_S10000x1x1_0_1 (maximumf (broadcastInDim S10000x1 ![] bcast_S_S10000x1 (constant S_ .f32 0xFF800000#32)) (Host.reduce FloatOps.maximumf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))))) (broadcastInDim S10000x1x10000 ![0, 2] bcast_S10000x10000_S10000x1x10000_0_2 (V0 (Proc.devRef .tc main_v6)))) (constant S_ .f32 0xFF800000#32) reducesTo_S10000x1x10000_S10000x1_d2 h_S_)))))) (broadcastInDim S10000x1x10000 ![0, 1, 2] bcast_S10000x1x1_S10000x1x10000_0_1_2 (broadcastInDim S10000x1x1 ![0, 1] bcast_S10000x1_S10000x1x1_0_1 (Host.reduceAdd (Host.exp (subf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))))) (broadcastInDim S10000x1x10000 ![0, 2] bcast_S10000x10000_S10000x1x10000_0_2 (V0 (Proc.devRef .tc main_v6)))) (broadcastInDim S10000x1x10000 ![0, 1, 2] bcast_S10000x1x1_S10000x1x10000_0_1_2 (broadcastInDim S10000x1x1 ![0, 1] bcast_S10000x1_S10000x1x1_0_1 (maximumf (broadcastInDim S10000x1 ![] bcast_S_S10000x1 (constant S_ .f32 0xFF800000#32)) (Host.reduce FloatOps.maximumf (addf (select (cmpf .oge (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (broadcastInDim S10000x1x10000 ![] bcast_S_S10000x1x10000 (constant S_ .f32 0x00000000#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))) (mulf (broadcastInDim S10000x1x10000 ![] bcast_S_S10000x1x10000 (id (constant S_ .f32 0x3E4CCCCD#32))) (addf (broadcastInDim S10000x1x10000 ![0, 1, 2] bcast_S10000x1x1_S10000x1x10000_0_1_2 (transpose S10000x1x1 [2, 0, 1] (Host.dotGeneral dot_S128x1x1_S10000x1x128_S1x1x10000_0_2_2_0_1_1 none (V0 (Proc.devRef .tc main_arg3)) (Host.dotGeneral dot_S10000x128_S128x1x128_S10000x1x128_1_0_0_12_n_n none (V0 (Proc.devRef .tc main_arg0)) (V0 (Proc.devRef .tc main_arg2)))) transposes_S1x1x10000_S10000x1x1_2_0_1)) (broadcastInDim S10000x1x10000 ![0, 1, 2] bcast_S1x1x10000_S10000x1x10000_0_1_2 (transpose S1x1x10000 [2, 1, 0] (transpose S10000x1x1 [2, 0, 1] (Host.dotGeneral dot_S128x1x1_S10000x1x128_S1x1x10000_0_2_2_0_1_1 none (V0 (Proc.devRef .tc main_arg4)) (Host.dotGeneral dot_S10000x128_S128x1x128_S10000x1x128_1_0_0_12_n_n none (V0 (Proc.devRef .tc main_arg0)) (V0 (Proc.devRef .tc main_arg2)))) transposes_S1x1x10000_S10000x1x1_2_0_1) transposes_S10000x1x1_S1x1x10000_2_1_0))))) (broadcastInDim S10000x1x10000 ![0, 2] bcast_S10000x10000_S10000x1x10000_0_2 (V0 (Proc.devRef .tc main_v6)))) (constant S_ .f32 0xFF800000#32) reducesTo_S10000x1x10000_S10000x1_d2 h_S_)))))) (constant S_ .f32 0x00000000#32) reducesTo_S10000x1x10000_S10000x1_d2 h_S_))))) transposes_S1x128x10000_S10000x1x128_2_0_1) shapeCasts_S10000x1x128_S10000x128) (broadcastInDim S10000x128 ![0, 1] bcast_S1x128_S10000x128_0_1 (broadcastInDim S1x128 ![1] bcast_S128_S1x128_1 (V0 (Proc.devRef .tc main_arg5))))
      = val_main_v35 (F := F) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_v6)) := rfl

end Cert.ReferenceIdeal.Stage

end
-- ==== Proof.Ref.lean ====
/-
  The reference's result over the reals: its stages at an index, from the mask that its region leaves up to the result.
-/
module

public import proofs.«01_k».proof.Proof.RefRead
public import proofs.«01_k».proof.Proof.Net
public import Idealize.ShloMosaic.Lib.KernelVsHost

@[expose] public section

set_option maxRecDepth 16384

noncomputable section

namespace Cert.Gat

/-- A maximum over values that are reals or minus infinity is one of these. -/
theorem fold_max_masked {ι : Type} (s : Finset ι) (f : ι → EReal) (h : ∀ k, f k = ⊥ ∨ ∃ b : ℝ, f k = (b : EReal)) :
    s.fold max ⊥ f = ⊥ ∨ ∃ b : ℝ, s.fold max ⊥ f = (b : EReal) := by
  classical
  induction s using Finset.induction_on with
  | empty => exact Or.inl Finset.fold_empty
  | insert a s ha ih =>
    rw [Finset.fold_insert ha]
    rcases h a with h1 | ⟨b, h1⟩
    · rw [h1, max_eq_right bot_le]; exact ih
    · rcases ih with h2 | ⟨b', h2⟩
      · rw [h1, h2, max_eq_left bot_le]; exact Or.inr ⟨b, rfl⟩
      · rw [h1, h2, ← coe_max]; exact Or.inr ⟨_, rfl⟩

/-- It is a real when one of the values is. -/
theorem fold_max_masked_real {ι : Type} (s : Finset ι) (f : ι → EReal) (h : ∀ k, f k = ⊥ ∨ ∃ b : ℝ, f k = (b : EReal))
    (k : ι) (hk : k ∈ s) (b : ℝ) (hb : f k = (b : EReal)) : ∃ b : ℝ, s.fold max ⊥ f = (b : EReal) := by
  rcases fold_max_masked s f h with h0 | h0
  · have hle : f k ≤ s.fold max ⊥ f := (Finset.le_fold_max (f k)).2 (Or.inr ⟨k, hk, le_rfl⟩)
    rw [h0, hb] at hle
    exact absurd (le_bot_iff.1 hle) (EReal.coe_ne_bot b)
  · exact h0

/-- The leaky part chosen by the sign is the larger of the two. -/
theorem leaky (s : ℝ) : (if (0 : EReal) ≤ (s : EReal) then (s : EReal) else slope * (s : EReal)) = ((max s (slope.toReal * s) : ℝ) : EReal) := by
  obtain ⟨h0, h1⟩ := slope_bounds
  split
  · next h =>
    rw [max_eq_left]
    have hs : 0 ≤ s := EReal.coe_nonneg.1 h
    nlinarith
  · next h =>
    have hs : s ≤ 0 := le_of_not_ge fun hs => h (EReal.coe_nonneg.2 hs)
    rw [max_eq_right (by nlinarith), EReal.coe_mul, slope_real]

end Cert.Gat

namespace Cert.ReferenceIdeal.Hand

open Cert.ReferenceIdeal Cert.ReferenceIdeal.Gen Cert.ReferenceIdeal.Stage
open Idealize.ShloMosaic Idealize.ShloMosaic.ValueIdx
open Cert.Gat (Net)

variable (x0 : S10000x128.Idx → EReal) (a : S10000x10000.Idx → EReal) (x2 : S128x1x128.Idx → EReal) (x3 x4 : S128x1x1.Idx → EReal)
  (x5 : S128.Idx → EReal) (r0 : S10000x10000.Idx → EReal)

/-- The layer of the arrays. -/
abbrev net : Net := Gat.netOf x0 a x2 x3 x4

variable (hx : ∀ i, (((x0 i).toReal : ℝ) : EReal) = x0 i) (hw : ∀ i, (((x2 i).toReal : ℝ) : EReal) = x2 i)
  (hp : ∀ i, (((x3 i).toReal : ℝ) : EReal) = x3 i) (hq : ∀ i, (((x4 i).toReal : ℝ) : EReal) = x4 i)
  (ha : ∀ i, a i = 0 ∨ a i = 1)
  (hr0 : ∀ r k : Fin 10000, r0 (ix2 r k) = if (net x0 a x2 x3 x4).g r.val k.val = 0 then ⊥ else 0)

include hx in
theorem x_real (n : Fin 10000) (e : Fin 128) : x0 (ix2 n e) = (((net x0 a x2 x3 x4).x n.val e : ℝ) : EReal) := by
  have h : (net x0 a x2 x3 x4).x n.val e = (x0 (ix2 n e)).toReal := by
    simp only [net, Gat.netOf]
    exact dif_pos n.isLt
  rw [h, hx]

include hx hw in
/-- The transformed features. -/
theorem v7_at (n : Fin 10000) (d : Fin 128) :
    val_main_v7 (F := Ideal) x0 x2 (ix3 n 0 d) = (((net x0 a x2 x3 x4).feat n.val d : ℝ) : EReal) := by
  rw [val_main_v7_apply, Net.feat, Gat.coe_sum]
  refine Finset.sum_congr rfl fun e _ => ?_
  have el : lidx_main_v7 (ix3 n 0 d) e = ix2 n e := by
    funext b; match b with | ⟨0, _⟩ => rfl | ⟨1, _⟩ => rfl
  have er : ridx_main_v7 (ix3 n 0 d) e = ix3 e 0 d := by
    funext b; match b with | ⟨0, _⟩ => rfl | ⟨1, _⟩ => rfl | ⟨2, _⟩ => rfl
  rw [el, er, x_real x0 a x2 x3 x4 hx, EReal.coe_mul, ← hw]
  rfl

include hx hw hp in
/-- A node's score as the one that looks. -/
theorem v8_at (n : Fin 10000) : val_main_v8 (F := Ideal) x0 x2 x3 (ix3 0 0 n) = (((net x0 a x2 x3 x4).own n.val : ℝ) : EReal) := by
  rw [val_main_v8_apply, Net.own_eq, Gat.coe_sum]
  refine Finset.sum_congr rfl fun e _ => ?_
  have el : lidx_main_v8 (ix3 0 0 n) e = ix3 e 0 0 := by
    funext b; match b with | ⟨0, _⟩ => rfl | ⟨1, _⟩ => rfl | ⟨2, _⟩ => rfl
  have er : ridx_main_v8 (ix3 0 0 n) e = ix3 n 0 e := by
    funext b; match b with | ⟨0, _⟩ => rfl | ⟨1, _⟩ => rfl | ⟨2, _⟩ => rfl
  rw [el, er, v7_at x0 a x2 x3 x4 hx hw, mul_comm, EReal.coe_mul, ← hp]
  rfl

include hx hw hq in
/-- A node's score as a neighbour. -/
theorem v10_at (n : Fin 10000) : val_main_v10 (F := Ideal) x0 x2 x4 (ix3 0 0 n) = (((net x0 a x2 x3 x4).nbr n.val : ℝ) : EReal) := by
  rw [val_main_v10_apply, Net.nbr_eq, Gat.coe_sum]
  refine Finset.sum_congr rfl fun e _ => ?_
  have el : lidx_main_v10 (ix3 0 0 n) e = ix3 e 0 0 := by
    funext b; match b with | ⟨0, _⟩ => rfl | ⟨1, _⟩ => rfl | ⟨2, _⟩ => rfl
  have er : ridx_main_v10 (ix3 0 0 n) e = ix3 n 0 e := by
    funext b; match b with | ⟨0, _⟩ => rfl | ⟨1, _⟩ => rfl | ⟨2, _⟩ => rfl
  rw [el, er, v7_at x0 a x2 x3 x4 hx hw, mul_comm, EReal.coe_mul, ← hq]
  rfl

include hx hw hp hq in
/-- The pair's score before the leaky part. -/
theorem v15_at (n k : Fin 10000) : val_main_v15 (F := Ideal) x0 x2 x3 x4 (ix3 n 0 k)
    = (((net x0 a x2 x3 x4).own n.val + (net x0 a x2 x3 x4).nbr k.val : ℝ) : EReal) := by
  rw [val_main_v15_apply, val_main_v13_apply, val_main_v9_apply, val_main_v14_apply, val_main_v12_apply, val_main_v11_apply]
  have e1 : idx_main_v9 (idx_main_v13 (ix3 n 0 k)) = ix3 0 0 n := by
    funext b; match b with | ⟨0, _⟩ => rfl | ⟨1, _⟩ => rfl | ⟨2, _⟩ => rfl
  have e2 : idx_main_v11 (idx_main_v12 (idx_main_v14 (ix3 n 0 k))) = ix3 0 0 k := by
    funext b; match b with | ⟨0, _⟩ => rfl | ⟨1, _⟩ => rfl | ⟨2, _⟩ => rfl
  rw [e1, e2, v8_at x0 a x2 x3 x4 hx hw hp, v10_at x0 a x2 x3 x4 hx hw hq, EReal.coe_add]
  rfl

include hx hw hp hq in
/-- The pair's score. -/
theorem v16_at (n k : Fin 10000) : val_main_v16 (F := Ideal) x0 x2 x3 x4 (ix3 n 0 k)
    = (((net x0 a x2 x3 x4).score n.val k.val : ℝ) : EReal) := by
  rw [val_main_v16_apply, val_main_call1_v1_apply, val_main_call1_v4_apply, val_main_call1_v0_apply, val_main_call1_v3_apply,
    val_main_call1_cst_apply, val_main_call1_v2_apply, val_main_cst_0_apply, v15_at x0 a x2 x3 x4 hx hw hp hq]
  refine Eq.trans ?_ (Gat.leaky ((net x0 a x2 x3 x4).own n.val + (net x0 a x2 x3 x4).nbr k.val))
  generalize (net x0 a x2 x3 x4).own n.val + (net x0 a x2 x3 x4).nbr k.val = s
  rw [Ideal.cmpf_def, Ideal.ofBits_def, Ideal.ofBits_zero_f32]
  show Scalar.select (BitVec.ofBool (decide ((0 : EReal) ≤ (s : EReal)))) (s : EReal) (Gat.slope * (s : EReal)) = _
  by_cases h : (0 : EReal) ≤ (s : EReal)
  · rw [if_pos h, decide_eq_true h]; rfl
  · rw [if_neg h, decide_eq_false h]; rfl

include hx hw hp hq hr0 in
/-- The masked score. -/
theorem v18_at (n k : Fin 10000) : val_main_v18 (F := Ideal) x0 x2 x3 x4 r0 (ix3 n 0 k)
    = if (net x0 a x2 x3 x4).g n.val k.val = 0 then ⊥ else (((net x0 a x2 x3 x4).score n.val k.val : ℝ) : EReal) := by
  rw [val_main_v18_apply, val_main_v17_apply, v16_at x0 a x2 x3 x4 hx hw hp hq]
  have e1 : idx_main_v17 (ix3 n 0 k) = ix2 n k := by
    funext b; match b with | ⟨0, _⟩ => rfl | ⟨1, _⟩ => rfl
  rw [e1, hr0]
  show (_ : EReal) + _ = _
  split
  · rw [EReal.add_bot]
  · rw [add_zero]

/-- The row maximum is a fold. -/
theorem rowmax_at (v : FVec Ideal S10000x1x10000 .f32) (n : Fin 10000) :
    Host.reduce FloatOps.maximumf v (val_main_cst_1 (F := Ideal)) reducesTo_S10000x1x10000_S10000x1_d2 h_S_ (ix2 n 0)
      = (Finset.univ : Finset (Fin 10000)).fold max (⊥ : EReal) fun k => v (ix3 n 0 k) := by
  have hred : S10000x1x10000.Reduces [2] S10000x1 := by decide
  have hbot : (FloatOps.ofBits (F := Ideal) .f32 0xFF800000#32 : EReal) = ⊥ := by
    show Ideal.ofBits .f32 0xFF800000#32 = ⊥
    simp [Ideal.ofBits, Ideal.ieee]
  refine (congrFun (hostReduce_maximumf_eq_multiReduction v 0xFF800000#32 reducesTo_S10000x1x10000_S10000x1_d2 h_S_ hred (.inl rfl) rfl) (ix2 n 0)).trans ?_
  refine (Ideal.multiReduction_maximumf_single v 0xFF800000#32 hred (.inl rfl) rfl (ix2 n 0)).trans ?_
  rw [hbot]
  refine congrArg (Finset.fold max (⊥ : EReal) · (Finset.univ : Finset (Fin 10000))) (funext fun k => congrArg v ?_)
  funext b; apply Fin.ext
  match b with | ⟨0, _⟩ => rfl | ⟨1, _⟩ => rfl | ⟨2, _⟩ => rfl

include hx hw hp hq hr0 in
/-- A row's maximum is a real: its diagonal is not masked. -/
theorem v21_at (n : Fin 10000) : ∃ M : ℝ, val_main_v21 (F := Ideal) x0 x2 x3 x4 r0 (ix2 n 0) = (M : EReal) := by
  have hval := v18_at x0 a x2 x3 x4 r0 hx hw hp hq hr0 n
  have hself : val_main_v18 (F := Ideal) x0 x2 x3 x4 r0 (ix3 n 0 n) = (((net x0 a x2 x3 x4).score n.val n.val : ℝ) : EReal) := by
    rw [hval, if_neg]
    rw [Gat.netOf_g_self x0 a x2 x3 x4 n.val n.isLt]
    exact one_ne_zero
  obtain ⟨M, hM⟩ := Gat.fold_max_masked_real (Finset.univ : Finset (Fin 10000))
    (fun k => val_main_v18 (F := Ideal) x0 x2 x3 x4 r0 (ix3 n 0 k))
    (fun k => by rw [hval]; split; exacts [Or.inl rfl, Or.inr ⟨_, rfl⟩]) n (Finset.mem_univ n) _ hself
  refine ⟨M, ?_⟩
  have h20 : val_main_v20 (F := Ideal) (ix2 n 0) = (⊥ : EReal) := by
    rw [val_main_v20_apply, val_main_cst_2_apply]
    show Ideal.ofBits .f32 0xFF800000#32 = ⊥
    simp [Ideal.ofBits, Ideal.ieee]
  rw [val_main_v21_apply, h20]
  unfold val_main_v19
  rw [rowmax_at, hM]
  exact max_eq_right bot_le

include hx hw hp hq ha hr0 in
/-- The exponentials and their row sums, against the row's maximum. -/
theorem v25_at (n : Fin 10000) (M : ℝ) (hM : val_main_v21 (F := Ideal) x0 x2 x3 x4 r0 (ix2 n 0) = (M : EReal)) (k : Fin 10000) :
    val_main_v25 (F := Ideal) x0 x2 x3 x4 r0 (ix3 n 0 k)
      = ((Real.exp ((net x0 a x2 x3 x4).score n.val k.val - M) * (net x0 a x2 x3 x4).g n.val k.val : ℝ) : EReal) := by
  rw [val_main_v25_apply, val_main_v24_apply, val_main_v23_apply, val_main_v22_apply, v18_at x0 a x2 x3 x4 r0 hx hw hp hq hr0]
  have e1 : idx_main_v22 (idx_main_v23 (ix3 n 0 k)) = ix2 n 0 := by
    funext b; match b with | ⟨0, _⟩ => rfl | ⟨1, _⟩ => rfl
  rw [e1, hM]
  show Ideal.exp ((_ : EReal) - _) = _
  by_cases hg : (net x0 a x2 x3 x4).g n.val k.val = 0
  · rw [if_pos hg, hg, mul_zero, EReal.bot_sub, Ideal.exp_bot, EReal.coe_zero]
  · have h1 : (net x0 a x2 x3 x4).g n.val k.val = 1 := by
      by_cases he : n.val = k.val
      · rw [← he]; exact Gat.netOf_g_self x0 a x2 x3 x4 n.val n.isLt
      · have hoff := Gat.netOf_g_off x0 a x2 x3 x4 n.val k.val n.isLt k.isLt he
        rw [hoff] at hg ⊢
        rcases ha (ix2 ⟨n.val, n.isLt⟩ ⟨k.val, k.isLt⟩) with h | h
        · rw [h] at hg; exact absurd EReal.toReal_zero hg
        · rw [h]; exact EReal.toReal_one
    rw [if_neg hg, h1, mul_one, ← EReal.coe_sub, Ideal.exp_coe]

include hx hw hp hq ha hr0 in
/-- The row sums. -/
theorem v26_at (n : Fin 10000) (M : ℝ) (hM : val_main_v21 (F := Ideal) x0 x2 x3 x4 r0 (ix2 n 0) = (M : EReal)) :
    val_main_v26 (F := Ideal) x0 x2 x3 x4 r0 (ix2 n 0) = (((net x0 a x2 x3 x4).mass n.val M 10000 : ℝ) : EReal) := by
  rw [val_main_v26_apply, val_main_cst_3_apply, Ideal.ofBits_def, Ideal.ofBits_zero_f32, zero_add, Net.mass,
    ← Fin.sum_univ_eq_sum_range (fun k => Real.exp ((net x0 a x2 x3 x4).score n.val k - M) * (net x0 a x2 x3 x4).g n.val k) 10000, Gat.coe_sum]
  refine Finset.sum_congr rfl fun k _ => ?_
  have e1 : idx_main_v26 (ix2 n 0) k = ix3 n 0 k := by
    funext b; match b with | ⟨0, _⟩ => rfl | ⟨1, _⟩ => rfl | ⟨2, _⟩ => rfl
  rw [e1]
  exact v25_at x0 a x2 x3 x4 r0 hx hw hp hq ha hr0 n M hM k

include hx hw hp hq ha hr0 in
/-- The reference's result. -/
theorem v35_at (n : Fin 10000) (d : Fin 128) :
    val_main_v35 (F := Ideal) x0 x2 x3 x4 x5 r0 (ix2 n d) = (((net x0 a x2 x3 x4).att n.val d : ℝ) : EReal) + x5 (ix1 d) := by
  obtain ⟨M, hM⟩ := v21_at x0 a x2 x3 x4 r0 hx hw hp hq hr0 n
  have hpos := (net x0 a x2 x3 x4).mass_pos n.val M 10000 (Gat.netOf_g_nonneg x0 a x2 x3 x4 ha n.val) n.isLt
    (Gat.netOf_g_self x0 a x2 x3 x4 n.val n.isLt)
  have h29 : ∀ k : Fin 10000, val_main_v29 (F := Ideal) x0 x2 x3 x4 r0 (ix3 n 0 k)
      = (((Real.exp ((net x0 a x2 x3 x4).score n.val k.val - M) * (net x0 a x2 x3 x4).g n.val k.val)
          * (1 / (net x0 a x2 x3 x4).mass n.val M 10000) : ℝ) : EReal) := fun k => by
    have e1 : idx_main_v27 (idx_main_v28 (ix3 n 0 k)) = ix2 n 0 := by
      funext b; match b with | ⟨0, _⟩ => rfl | ⟨1, _⟩ => rfl
    rw [val_main_v29_apply, val_main_v28_apply, val_main_v27_apply, e1, v26_at x0 a x2 x3 x4 r0 hx hw hp hq ha hr0 n M hM,
      v25_at x0 a x2 x3 x4 r0 hx hw hp hq ha hr0 n M hM k, Ideal.hostDivf_def, Ideal.div_coe hpos.ne', ← EReal.coe_mul]
  have h32 : val_main_v32 (F := Ideal) x0 x2 x3 x4 r0 (ix2 n d) = (((net x0 a x2 x3 x4).att n.val d : ℝ) : EReal) := by
    rw [val_main_v32_apply, val_main_v31_apply, val_main_v30_apply, ← (net x0 a x2 x3 x4).softmax_finish n.val M d, Gat.coe_sum]
    refine Finset.sum_congr rfl fun k _ => ?_
    have hn := n.isLt
    have hd := d.isLt
    have el : lidx_main_v30 (idx_main_v31 (idx_main_v32 (ix2 n d))) k = ix3 k 0 d := by
      funext b; apply Fin.ext
      match b with
      | ⟨0, _⟩ => rfl
      | ⟨1, _⟩ => rfl
      | ⟨2, _⟩ => show (n.val * 128 + d.val) % 128 = d.val; omega
    have er : ridx_main_v30 (idx_main_v31 (idx_main_v32 (ix2 n d))) k = ix3 n 0 k := by
      funext b; apply Fin.ext
      match b with
      | ⟨0, _⟩ => show (n.val * 128 + d.val) / 128 = n.val; omega
      | ⟨1, _⟩ => rfl
      | ⟨2, _⟩ => rfl
    rw [el, er, v7_at x0 a x2 x3 x4 hx hw, h29, ← EReal.coe_mul]
  have e2 : idx_main_v33 (idx_main_v34 (ix2 n d)) = ix1 d := by
    funext b; match b with | ⟨0, _⟩ => rfl
  rw [val_main_v35_apply, h32, val_main_v34_apply, val_main_v33_apply, e2]
  rfl

end Cert.ReferenceIdeal.Hand

end
-- ==== Proof.Mask.lean ====
/-
  What the reference's region leaves: the mask of the adjacency matrix with its diagonal set to one. It is minus infinity
  where an entry is zero and zero elsewhere. Then the reference's run with its result as one function of the arguments.
-/
module

public import proofs.«01_k».proof.Proof.Ref

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx Idealize.ShloMosaic.StableHlo Idealize.SL.Sem

variable (m : (ℓ : Loc nD τ sig) → Buf (Elt Ideal) ℓ)

/-- The arguments the result reads, at one device. -/
abbrev argX (c : Dev nD) : S10000x128.Idx → EReal := m ((c.tc : Thread nD τ).loc main_arg0)
abbrev argA (c : Dev nD) : S10000x10000.Idx → EReal := m ((c.tc : Thread nD τ).loc main_arg1)
abbrev argW (c : Dev nD) : S128x1x128.Idx → EReal := m ((c.tc : Thread nD τ).loc main_arg2)
abbrev argP (c : Dev nD) : S128x1x1.Idx → EReal := m ((c.tc : Thread nD τ).loc main_arg3)
abbrev argQ (c : Dev nD) : S128x1x1.Idx → EReal := m ((c.tc : Thread nD τ).loc main_arg4)
abbrev argB (c : Dev nD) : S128.Idx → EReal := m ((c.tc : Thread nD τ).loc main_arg5)

/-- The adjacency matrix with ones on its diagonal. -/
def looped (a : S10000x10000.Idx → EReal) : S10000x10000.Idx → EReal := fun i => if (i 0).val = (i 1).val then 1 else a i

/-- The region's array as it is found. -/
theorem V_v5 (c : Dev nD) : V m c main_v5
    = select (cmpi .eq (addi (iotaInDim S10000x10000 32 0) (broadcastInDim S10000x10000 ![] bcast_S_S10000x10000 (constantI S_ 32 0#32)))
        (iotaInDim S10000x10000 32 1))
      (broadcastInDim S10000x10000 ![] bcast_S_S10000x10000 (id (constant (F := Ideal) S_ .f32 0x3F800000#32)))
      (m ((c.tc : Thread nD τ).loc main_arg1) : FVec Ideal S10000x10000 .f32) := by
  show StableHlo.after (List.flatten [hostOps0, hostOps0_1]) _ (Proc.devRef .tc main_v5) = _
  simp only [hostOps0, hostOps0_1, TRef.ternary, TRef.unary, TRef.toBuf, TRef.ofBuf, cast_eq, List.flatten_cons, List.flatten_nil, List.append_nil, List.cons_append, List.nil_append]
  after_results_simp <;> rfl

/-- Two node numbers are equal as words exactly when they are equal. -/
theorem eq_word (n k : Nat) (hn : n < 10000) (hk : k < 10000) :
    IntOp.cmpi .eq (IntOp.addi (BitVec.ofNat 32 n) 0#32) (BitVec.ofNat 32 k) = if n = k then 1#1 else 0#1 := by
  show BitVec.ofBool (BitVec.ofNat 32 n + 0#32 == BitVec.ofNat 32 k) = _
  rw [BitVec.add_zero]
  split
  · next h => rw [h]; simp
  · next h =>
    have : (BitVec.ofNat 32 n == BitVec.ofNat 32 k) = false := by
      rw [beq_eq_false_iff_ne]
      intro e
      have e' := congrArg BitVec.toNat e
      simp only [BitVec.toNat_ofNat] at e'
      omega
    rw [this]; rfl

theorem v5_at (c : Dev nD) (i : S10000x10000.Idx) : (V m c main_v5 : S10000x10000.Idx → EReal) i = looped (argA m c) i := by
  rw [V_v5]
  have h0 : (i 0).val < 10000 := (i 0).isLt
  have h1 : (i 1).val < 10000 := (i 1).isLt
  show Scalar.select (IntOp.cmpi .eq (IntOp.addi (BitVec.ofNat 32 (i 0).val) 0#32) (BitVec.ofNat 32 (i 1).val))
    (Ideal.ofBits .f32 0x3F800000#32) (argA m c i) = _
  rw [eq_word _ _ h0 h1, Ideal.ofBits_one_f32]
  unfold looped
  split <;> rfl

/-- The body's payload at an index. -/
theorem pay_at (v : S10000x10000.Idx → EReal) (i : S10000x10000.Idx) : k0_pay1 (F := Ideal) v i = if v i = 0 then (⊥ : EReal) else 0 := by
  unfold k0_pay1
  have hn : (Named.named (F := Ideal) κ "mask" (φ := .f32) 0xD01502F9#32 : EReal) = ⊥ := IdealRules.named_const.ideal_named_scalar _ _ _ _ rfl
  have hc : shapeCast S10000x10000 (v : FVec Ideal S10000x10000 .f32) shapeCasts_S10000x10000_S10000x10000 = v := shapeCast_self ..
  have hz : (Scalar.ofBits (F := Ideal) .f32 0x00000000#32 : EReal) = 0 := Ideal.ofBits_zero_f32
  simp only [hc]
  rw [hz, hn]
  show Scalar.select (BitVec.ofBool (decide (v i = 0))) (⊥ : EReal) 0 = _
  by_cases h : v i = 0
  · rw [if_pos h, decide_eq_true h]; rfl
  · rw [if_neg h, decide_eq_false h]; rfl

/-! ## The one block is the whole array -/

theorem idx_zero0 : ∀ t : Fin cfg0.N, win0_0.index t (0 : Fin 2) = 0 ∧ win0_0.index t (1 : Fin 2) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)

theorem emb0 (t : Fin cfg0.N) (j : S10000x10000.Idx) : ((cfg0.win 0).blk t).view.emb j = j := by
  obtain ⟨e0, e1⟩ := idx_zero0 t
  funext a; apply Fin.ext
  match a with
  | ⟨0, _⟩ => show win0_0.index t (0 : Fin 2) * 10000 + 1 * (j 0).val = (j 0).val; omega
  | ⟨1, _⟩ => show win0_0.index t (1 : Fin 2) * 10000 + 1 * (j 1).val = (j 1).val; omega

theorem emb1 (t : Fin cfg0.N) (j : S10000x10000.Idx) : ((cfg0.win 1).blk t).view.emb j = j := by
  obtain ⟨e0, e1⟩ := idx_zero1 t
  funext a; apply Fin.ext
  match a with
  | ⟨0, _⟩ => show win0_1.index t (0 : Fin 2) * 10000 + 1 * (j 0).val = (j 0).val; omega
  | ⟨1, _⟩ => show win0_1.index t (1 : Fin 2) * 10000 + 1 * (j 1).val = (j 1).val; omega

theorem iblk_eq (c : Dev nD) (t : Fin cfg0.N) : iblk m c 0 t = V m c main_v5 := by
  funext j; show V m c main_v5 (((cfg0.win 0).blk t).view.emb j) = V m c main_v5 j; rw [emb0]

theorem hz : (![0, 0] : Fin 2 → Nat) = fun _ => 0 := funext fun a => by fin_cases a <;> rfl

theorem out_eq (x : Vec Ideal S10000x10000 .f32) : out0_1 x = k0_pay1 x := by
  unfold out0_1 r0_0
  rw [View.canon_unit_zero hz, View.ld_unit_zero hz]

theorem cut_eq (t : Fin cfg0.N) (X : Vec Ideal S10000x10000 .f32) :
    (cfg0.win 1).cut (grid0.coords t) X = ((cfg0.win 1).blk t).view.read (Elt Ideal) X := by
  funext j
  show X j = X (((cfg0.win 1).blk t).view.emb j)
  rw [emb1]

theorem flushed_eq (c : Dev nD) (t : Fin cfg0.N) :
    (dats m 0 c).flushed 1 t = ((cfg0.win 1).blk t).view.read (Elt Ideal) (k0_pay1 (V m c main_v5)) := by
  refine Eq.trans ?_ (cut_eq t _)
  show (cfg0.win 1).cut (grid0.coords t) ((dats m 0 c).after 1 t) = _
  rw [after0_1, out_eq, iblk_eq]

theorem covered (i : S10000x10000.Idx) : ∃ t : Fin cfg0.N, (cfg0.win 1).flush t = true ∧ i ∈ ((cfg0.win 1).blk t).view.set :=
  ⟨(⟨0, by decide⟩ : Fin cfg0.N), flush0_1 _, by
    have h := ((cfg0.win 1).blk (⟨0, by decide⟩ : Fin cfg0.N)).view.emb_mem_set i; rwa [emb1] at h⟩

/-- What the region leaves. -/
theorem reg_eq (c : Dev nD) : Left.reg_main_v6 m c = k0_pay1 (V m c main_v5) :=
  (dats m 0 c).arrAt_eq_of_cover 1 (k0_pay1 (V m c main_v5)) (fun t _ => flushed_eq m c t) covered

/-! ## The run -/

/-- What the arguments are taken to be: the adjacency entries zero or one, the other entries that meet them real. -/
structure Fit : Prop where
  a : ∀ c i, argA m c i = 0 ∨ argA m c i = 1
  x : ∀ c i, (((argX m c i).toReal : ℝ) : EReal) = argX m c i
  w : ∀ c i, (((argW m c i).toReal : ℝ) : EReal) = argW m c i
  p : ∀ c i, (((argP m c i).toReal : ℝ) : EReal) = argP m c i
  q : ∀ c i, (((argQ m c i).toReal : ℝ) : EReal) = argQ m c i

/-- What the region leaves, as extended reals. -/
abbrev mask (c : Dev nD) : S10000x10000.Idx → EReal := Left.reg_main_v6 m c

/-- The mask, by the layer's gate. -/
theorem mask_at (hm : Fit m) (c : Dev nD) (n k : Fin 10000) : mask m c (ix2 n k)
    = if (net (argX m c) (argA m c) (argW m c) (argP m c) (argQ m c)).g n.val k.val = 0 then ⊥ else 0 := by
  unfold mask
  rw [reg_eq]
  refine (pay_at (V m c main_v5) (ix2 n k)).trans ?_
  rw [v5_at]
  have hi : (looped (argA m c) (ix2 n k) = 0) ↔ (net (argX m c) (argA m c) (argW m c) (argP m c) (argQ m c)).g n.val k.val = 0 := by
    show (if n.val = k.val then (1 : EReal) else argA m c (ix2 n k)) = 0 ↔ _
    by_cases he : n.val = k.val
    · rw [if_pos he, ← he, Gat.netOf_g_self _ _ _ _ _ n.val n.isLt]
      exact ⟨fun h => absurd h one_ne_zero, fun h => absurd h one_ne_zero⟩
    · rw [if_neg he, Gat.netOf_g_off _ _ _ _ _ n.val k.val n.isLt k.isLt he]
      rcases hm.a c (ix2 n k) with h | h
      · exact ⟨fun _ => by show (argA m c (ix2 n k)).toReal = 0; rw [h]; exact EReal.toReal_zero, fun _ => h⟩
      · refine ⟨fun h' => absurd (h.symm.trans h') one_ne_zero, fun h' => ?_⟩
        have h'' : (argA m c (ix2 n k)).toReal = 0 := h'
        rw [h, EReal.toReal_one] at h''
        exact absurd h'' one_ne_zero
  exact if_congr hi rfl rfl

/-- The result as a function of the arguments. -/
def out (c : Dev nD) : S10000x128.Idx → EReal := fun i =>
  (((net (argX m c) (argA m c) (argW m c) (argP m c) (argQ m c)).att (i 0).val (i 1) : ℝ) : EReal) + argB m c (ix1 (i 1))

theorem res_eq (hm : Fit m) (c : Dev nD) : Left.res_main_v35 m c = out m c := by
  have h1 : Left.res_main_v35 m c = Stage.val_main_v35 (F := Ideal) (argX m c) (argW m c) (argP m c) (argQ m c) (argB m c) (Left.reg_main_v6 m c) := by
    unfold Left.res_main_v35
    rfl
  rw [h1]
  funext i
  rw [eq_ix2 i]
  exact v35_at (argX m c) (argA m c) (argW m c) (argP m c) (argQ m c) (argB m c) (Left.reg_main_v6 m c)
    (hm.x c) (hm.w c) (hm.p c) (hm.q c) (hm.a c) (mask_at m hm c) (i 0) (i 1)

/-- Every fair run of the reference ends with that result, the arguments as they were. -/
theorem run_value (ρ : Dev nD → PrngReg) (hm : Fit m) :
    θ_run defs (onTc (τ := τ) (main (F := Ideal))) ⟨m, fun _ => 0, ρ⟩ fun r => ∀ c : Dev nD,
      r.2.mem ((c.tc : Thread nD τ).loc main_v35) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (res_eq m hm c), (h c).2⟩) (Left.run m ρ)

end Cert.ReferenceIdeal.Hand

end
-- ==== Proof.lean ====
/-
  The certificate's claims. The two programs have one text, so the frame of the kernel as compiled and of its idealization are one
  run (Proof/Run.lean) read at two kinds of value. The reference's frames are its generated run. The value claim puts the kernel's
  result (Proof/Value.lean) beside the reference's (Proof/Mask.lean): both are the one layer of Proof/Net.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Run
public import proofs.«01_k».proof.Proof.Value
public import proofs.«01_k».proof.Proof.Pre
public import proofs.«01_k».proof.Proof.Mask
public import proofs.«01_k».proof.Proof.Gen.ReferenceIdeal
public import proofs.«01_k».proof.Proof.Gen.ReferenceIdeal.Launch
public import proofs.«01_k».proof.Proof.Gen.ReferenceIdeal.Skeleton
public import proofs.«01_k».proof.Proof.Gen.ReferenceIdeal.Points
public import proofs.«01_k».proof.Proof.Gen.ReferenceIdeal.Frame
public import proofs.«01_k».proof.Proof.Gen.Reference
public import proofs.«01_k».proof.Proof.Gen.Reference.Launch
public import proofs.«01_k».proof.Proof.Gen.Reference.Skeleton
public import proofs.«01_k».proof.Proof.Gen.Reference.Points
public import proofs.«01_k».proof.Proof.Gen.Reference.Frame
public import Idealize.ShloMosaic.Adequacy
public import Idealize.ShloMosaic.Init

@[expose] public section

noncomputable section

namespace Cert.Proof

open Idealize.ShloMosaic Idealize.SL.Sem

set_option maxRecDepth 32768 in
/-- The two body tables are one: at each label the same body. -/
theorem defs₀_eq : Cert.Kernel.defs₀ (F := Bits) = Cert.KernelIdeal.defs₀ := by
  unfold Cert.Kernel.defs₀ Cert.KernelIdeal.defs₀
  refine congrArg (Defs.onTc (nD := Cert.Kernel.nD)) ?_
  funext ℓ a
  match ℓ, a with
  | 0, (t, s) => rfl

set_option maxRecDepth 32768 in
theorem defs_eq : Cert.Kernel.defs (F := Bits) = Cert.KernelIdeal.defs := by
  unfold Cert.Kernel.defs Cert.KernelIdeal.defs
  rw [defs₀_eq]
  rfl

set_option maxRecDepth 32768 in
theorem frame_kernel : Cert.quiescent_Kernel := fun m ρ _ => by
  rw [defs_eq]
  exact Cert.KernelIdeal.Hand.run_frame (F := Bits) m ρ

theorem frame_kernelIdeal : Cert.quiescent_KernelIdeal := fun m ρ _ => Cert.KernelIdeal.Hand.run_frame (F := Ideal) m ρ

theorem frame_kernelIdeal_pre : Cert.quiescent_KernelIdeal_pre_binary_and_finite := fun m ρ _ => Cert.KernelIdeal.Hand.run_frame (F := Ideal) m ρ

theorem frame_referenceIdeal : Cert.quiescent_ReferenceIdeal := fun m ρ _ => Cert.ReferenceIdeal.Gen.frame (F := Ideal) m ρ

theorem frame_referenceIdeal_pre : Cert.quiescent_ReferenceIdeal_pre_binary_and_finite := fun m ρ _ => Cert.ReferenceIdeal.Gen.frame (F := Ideal) m ρ

theorem frame_reference : Cert.quiescent_Reference := fun m ρ _ => Cert.Reference.Gen.frame (F := Bits) m ρ

theorem preserves_reference : Cert.preserves_Reference_ReferenceIdeal :=
  IdealRules.named_const.statement Cert.ReferenceIdeal.κ "mask" .f32 0xD01502F9#32 ⊥ rfl

/-- The two programs end with one result, where the adjacency matrix is of zeros and ones and the other factors are real. -/
theorem algebraic : Cert.algebraic_KernelIdeal_ReferenceIdeal_pre_binary_and_finite := fun m ρ m' ρ' hpre hargs => by
  have h := fun c => Cert.Pre_binary_and_finite.Hand.of_fn _ _ _ _ _ _ (hpre c)
  have hk : Cert.KernelIdeal.Hand.Fit m :=
    ⟨fun c => (h c).1, fun c => (h c).2.1, fun c => (h c).2.2.1, fun c => (h c).2.2.2.1, fun c => (h c).2.2.2.2⟩
  have e0 : ∀ c, Cert.ReferenceIdeal.Hand.argX m' c = Cert.KernelIdeal.Hand.argX m c := fun c => (hargs c).1
  have e1 : ∀ c, Cert.ReferenceIdeal.Hand.argA m' c = Cert.KernelIdeal.Hand.argA m c := fun c => (hargs c).2.1
  have e2 : ∀ c, Cert.ReferenceIdeal.Hand.argW m' c = Cert.KernelIdeal.Hand.argW m c := fun c => (hargs c).2.2.1
  have e3 : ∀ c, Cert.ReferenceIdeal.Hand.argP m' c = Cert.KernelIdeal.Hand.argP m c := fun c => (hargs c).2.2.2.1
  have e4 : ∀ c, Cert.ReferenceIdeal.Hand.argQ m' c = Cert.KernelIdeal.Hand.argQ m c := fun c => (hargs c).2.2.2.2.1
  have e5 : ∀ c, Cert.ReferenceIdeal.Hand.argB m' c = Cert.KernelIdeal.Hand.argB m c := fun c => (hargs c).2.2.2.2.2
  have hr : Cert.ReferenceIdeal.Hand.Fit m' :=
    ⟨fun c => by rw [e1 c]; exact hk.a c, fun c => by rw [e0 c]; exact hk.x c, fun c => by rw [e2 c]; exact hk.w c,
      fun c => by rw [e3 c]; exact hk.p c, fun c => by rw [e4 c]; exact hk.q c⟩
  have he : ∀ c, Cert.ReferenceIdeal.Hand.out m' c = Cert.KernelIdeal.Hand.out m c := fun c => by
    unfold Cert.ReferenceIdeal.Hand.out Cert.ReferenceIdeal.Hand.net
    rw [e0 c, e1 c, e2 c, e3 c, e4 c, e5 c]
    rfl
  exact ⟨fun c => Cert.KernelIdeal.Hand.out m c, Cert.KernelIdeal.Hand.run_value ρ hk,
    (θ_run Cert.ReferenceIdeal.defs _ _).mono (fun r hr' c => ⟨(hr' c).1.trans (he c), (hr' c).2⟩)
      (Cert.ReferenceIdeal.Hand.run_value m' ρ' hr)⟩

theorem claim : Cert.Claim := ⟨Cert.Kernel.Gen.facts, Cert.KernelIdeal.Gen.facts, Cert.ReferenceIdeal.Gen.facts,
  Cert.Reference.Gen.facts, Cert.Pre_binary_and_finite.Hand.facts,
  frame_kernel, frame_kernelIdeal, frame_kernelIdeal_pre, frame_referenceIdeal, frame_referenceIdeal_pre, frame_reference,
  trivial, preserves_reference, algebraic⟩

end Cert.Proof

end
